-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_numbers [hPre_scales_are_numbers : Cert.Pre_scales_are_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_numbers [hPre_scales_are_numbers : Cert.Pre_scales_are_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_are_numbers [hKernelIdeal : Cert.KernelIdeal.Facts] [hPre_scales_are_numbers : Cert.Pre_scales_are_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_are_numbers [hReferenceIdeal : Cert.ReferenceIdeal.Facts] [hPre_scales_are_numbers : Cert.Pre_scales_are_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_are_numbers [hKernelIdeal : Cert.KernelIdeal.Facts] [hReferenceIdeal : Cert.ReferenceIdeal.Facts] [hPre_scales_are_numbers : Cert.Pre_scales_are_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_are_numbers : Cert.Pre_scales_are_numbers.Facts),
    quiescent_Kernel (hKernel := hKernel)
    ∧ quiescent_KernelIdeal (hKernelIdeal := hKernelIdeal)
    ∧ quiescent_KernelIdeal_pre_scales_are_numbers (hKernelIdeal := hKernelIdeal) (hPre_scales_are_numbers := hPre_scales_are_numbers)
    ∧ quiescent_ReferenceIdeal (hReferenceIdeal := hReferenceIdeal)
    ∧ quiescent_ReferenceIdeal_pre_scales_are_numbers (hReferenceIdeal := hReferenceIdeal) (hPre_scales_are_numbers := hPre_scales_are_numbers)
    ∧ preserves_Kernel_KernelIdeal
    ∧ algebraic_KernelIdeal_ReferenceIdeal_pre_scales_are_numbers (hKernelIdeal := hKernelIdeal) (hReferenceIdeal := hReferenceIdeal) (hPre_scales_are_numbers := hPre_scales_are_numbers)
-- ==== Pre_scales_are_numbers.lean ====
abbrev S6x4096x4096 : Shape := ⟨3, ![6, 4096, 4096]⟩
abbrev S3968x4096 : Shape := ⟨2, ![3968, 4096]⟩
abbrev S3968x128 : Shape := ⟨2, ![3968, 128]⟩
abbrev S_ : Shape := ⟨0, ![]⟩

class Facts : Prop where
  bcast_S_S3968x128 : S_.BroadcastsInDim S3968x128 (![] : Fin 0 → Fin S3968x128.rank)

variable [Facts]

def fn {F : FTy → Type} [FloatOps F] (main_arg0 : FVec F S6x4096x4096 .bf16) (main_arg1 : FVec F S3968x4096 .fp8e4m3) (main_arg2 : IVec S3968x128 8) : IVec S3968x128 1 :=
  let main_c : IVec S_ 8 := constantI S_ 8 255#8
  let main_v0 : IVec S3968x128 8 := broadcastInDim S3968x128 ![] bcast_S_S3968x128 main_c
  let main_v1 : IVec S3968x128 1 := cmpi .ne main_arg2 main_v0
  main_v1
-- ==== Kernel.lean ====
abbrev S6x4096x4096 : Shape := ⟨3, ![6, 4096, 4096]⟩
abbrev S3968x4096 : Shape := ⟨2, ![3968, 4096]⟩
abbrev S3968x128 : Shape := ⟨2, ![3968, 128]⟩
abbrev S128x4096 : Shape := ⟨2, ![128, 4096]⟩
abbrev S_ : Shape := ⟨0, ![]⟩
abbrev S128x128 : Shape := ⟨2, ![128, 128]⟩
abbrev S24576x4096 : Shape := ⟨2, ![24576, 4096]⟩
abbrev S24576x3968 : Shape := ⟨2, ![24576, 3968]⟩
abbrev S24576x128 : Shape := ⟨2, ![24576, 128]⟩
abbrev S256x4096 : Shape := ⟨2, ![256, 4096]⟩
abbrev S256x3968 : Shape := ⟨2, ![256, 3968]⟩
abbrev S256x128 : Shape := ⟨2, ![256, 128]⟩
abbrev S4096x256 : Shape := ⟨2, ![4096, 256]⟩
abbrev S128x32x256 : Shape := ⟨3, ![128, 32, 256]⟩
abbrev S128x256 : Shape := ⟨2, ![128, 256]⟩
abbrev S128x1x256 : Shape := ⟨3, ![128, 1, 256]⟩
abbrev S1024x4096 : Shape := ⟨2, ![1024, 4096]⟩
abbrev S1024x256 : Shape := ⟨2, ![1024, 256]⟩
abbrev S256x1024 : Shape := ⟨2, ![256, 1024]⟩
abbrev S896x4096 : Shape := ⟨2, ![896, 4096]⟩
abbrev S896x256 : Shape := ⟨2, ![896, 256]⟩
abbrev S256x896 : Shape := ⟨2, ![256, 896]⟩
abbrev S6x4096x3968 : Shape := ⟨3, ![6, 4096, 3968]⟩
abbrev S6x4096x128 : Shape := ⟨3, ![6, 4096, 128]⟩

abbrev nBuf : Space → Nat
  | .hbm => 33
  | .vmem => 16
  | .smem => 0
  | _ => 0

abbrev bufTy : (tb : Table) → Fin (tcTables nBuf tb) → BufTy
  | .hbm, ⟨0, _⟩ => ⟨S6x4096x4096, .bf16⟩
  | .hbm, ⟨1, _⟩ => ⟨S3968x4096, .fp8e4m3⟩
  | .hbm, ⟨2, _⟩ => ⟨S3968x128, .i8⟩
  | .hbm, ⟨3, _⟩ => ⟨S128x4096, .i32⟩
  | .hbm, ⟨4, _⟩ => ⟨S_, .i32⟩
  | .hbm, ⟨5, _⟩ => ⟨S_, .i32⟩
  | .hbm, ⟨6, _⟩ => ⟨S128x4096, .i32⟩
  | .hbm, ⟨7, _⟩ => ⟨S128x4096, .i32⟩
  | .hbm, ⟨8, _⟩ => ⟨S128x4096, .i32⟩
  | .hbm, ⟨9, _⟩ => ⟨S_, .i32⟩
  | .hbm, ⟨10, _⟩ => ⟨S128x4096, .i32⟩
  | .hbm, ⟨11, _⟩ => ⟨S128x4096, .i1⟩
  | .hbm, ⟨12, _⟩ => ⟨S128x4096, .i32⟩
  | .hbm, ⟨13, _⟩ => ⟨S128x4096, .i32⟩
  | .hbm, ⟨14, _⟩ => ⟨S_, .i32⟩
  | .hbm, ⟨15, _⟩ => ⟨S128x4096, .i32⟩
  | .hbm, ⟨16, _⟩ => ⟨S128x4096, .i1⟩
  | .hbm, ⟨17, _⟩ => ⟨S128x4096, .i1⟩
  | .hbm, ⟨18, _⟩ => ⟨S_, .i32⟩
  | .hbm, ⟨19, _⟩ => ⟨S128x4096, .i32⟩
  | .hbm, ⟨20, _⟩ => ⟨S128x4096, .i32⟩
  | .hbm, ⟨21, _⟩ => ⟨S128x4096, .i32⟩
  | .hbm, ⟨22, _⟩ => ⟨S128x4096, .i32⟩
  | .hbm, ⟨23, _⟩ => ⟨S128x4096, .i1⟩
  | .hbm, ⟨24, _⟩ => ⟨S128x4096, .bf16⟩
  | .hbm, ⟨25, _⟩ => ⟨S3968x4096, .bf16⟩
  | .hbm, ⟨26, _⟩ => ⟨S24576x4096, .bf16⟩
  | .hbm, ⟨27, _⟩ => ⟨S24576x3968, .bf16⟩
  | .hbm, ⟨28, _⟩ => ⟨S24576x4096, .fp8e4m3⟩
  | .hbm, ⟨29, _⟩ => ⟨S24576x128, .i8⟩
  | .hbm, ⟨30, _⟩ => ⟨S6x4096x3968, .bf16⟩
  | .hbm, ⟨31, _⟩ => ⟨S6x4096x4096, .fp8e4m3⟩
  | .hbm, ⟨32, _⟩ => ⟨S6x4096x128, .i8⟩
  | .local _ .vmem, ⟨0, _⟩ => ⟨S128x4096, .fp8e4m3⟩
  | .local _ .vmem, ⟨1, _⟩ => ⟨S128x4096, .fp8e4m3⟩
  | .local _ .vmem, ⟨2, _⟩ => ⟨S128x128, .i8⟩
  | .local _ .vmem, ⟨3, _⟩ => ⟨S128x128, .i8⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S256x4096, .bf16⟩
  | .local _ .vmem, ⟨8, _⟩ => ⟨S256x4096, .bf16⟩
  | .local _ .vmem, ⟨9, _⟩ => ⟨S3968x4096, .bf16⟩
  | .local _ .vmem, ⟨10, _⟩ => ⟨S256x3968, .bf16⟩
  | .local _ .vmem, ⟨11, _⟩ => ⟨S256x3968, .bf16⟩
  | .local _ .vmem, ⟨12, _⟩ => ⟨S256x4096, .fp8e4m3⟩
  | .local _ .vmem, ⟨13, _⟩ => ⟨S256x4096, .fp8e4m3⟩
  | .local _ .vmem, ⟨14, _⟩ => ⟨S256x128, .i8⟩
  | .local _ .vmem, ⟨15, _⟩ => ⟨S256x128, .i8⟩
  | _, _ => ⟨S6x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3968x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x3968 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S6x4096x4096 : Shape := ⟨3, ![6, 4096, 4096]⟩
abbrev S3968x4096 : Shape := ⟨2, ![3968, 4096]⟩
abbrev S3968x128 : Shape := ⟨2, ![3968, 128]⟩
abbrev S6x4096x3968 : Shape := ⟨3, ![6, 4096, 3968]⟩
abbrev S6x4096x128 : Shape := ⟨3, ![6, 4096, 128]⟩
abbrev S6x4096x128x32 : Shape := ⟨4, ![6, 4096, 128, 32]⟩
abbrev S6x4096x128x254 : Shape := ⟨4, ![6, 4096, 128, 254]⟩
abbrev S6x4096x128x1 : Shape := ⟨4, ![6, 4096, 128, 1]⟩
abbrev S24576x128x32 : Shape := ⟨3, ![24576, 128, 32]⟩
abbrev S128x24576x32 : Shape := ⟨3, ![128, 24576, 32]⟩
abbrev S24576x128 : Shape := ⟨2, ![24576, 128]⟩
abbrev S128x24576 : Shape := ⟨2, ![128, 24576]⟩
abbrev S3968x128x32 : Shape := ⟨3, ![3968, 128, 32]⟩
abbrev S128x3968x32 : Shape := ⟨3, ![128, 3968, 32]⟩
abbrev S128x3968 : Shape := ⟨2, ![128, 3968]⟩
abbrev S128x24576x3968 : Shape := ⟨3, ![128, 24576, 3968]⟩
abbrev S128x24576x1 : Shape := ⟨3, ![128, 24576, 1]⟩
abbrev S128x1x3968 : Shape := ⟨3, ![128, 1, 3968]⟩
abbrev S24576x3968 : Shape := ⟨2, ![24576, 3968]⟩

abbrev nBuf : Space → Nat
  | .hbm => 6
  | .vmem => 6
  | .smem => 0
  | _ => 0

abbrev bufTy : (tb : Table) → Fin (tcTables nBuf tb) → BufTy
  | .hbm, ⟨0, _⟩ => ⟨S6x4096x4096, .bf16⟩
  | .hbm, ⟨1, _⟩ => ⟨S3968x4096, .fp8e4m3⟩
  | .hbm, ⟨2, _⟩ => ⟨S3968x128, .i8⟩
  | .hbm, ⟨3, _⟩ => ⟨S6x4096x3968, .bf16⟩
  | .hbm, ⟨4, _⟩ => ⟨S6x4096x4096, .fp8e4m3⟩
  | .hbm, ⟨5, _⟩ => ⟨S6x4096x128, .i8⟩
  | .local _ .vmem, ⟨0, _⟩ => ⟨S6x4096x4096, .bf16⟩
  | .local _ .vmem, ⟨1, _⟩ => ⟨S3968x4096, .fp8e4m3⟩
  | .local _ .vmem, ⟨2, _⟩ => ⟨S3968x128, .i8⟩
  | .local _ .vmem, ⟨3, _⟩ => ⟨S6x4096x3968, .bf16⟩
  | .local _ .vmem, ⟨4, _⟩ => ⟨S6x4096x4096, .fp8e4m3⟩
  | .local _ .vmem, ⟨5, _⟩ => ⟨S6x4096x128, .i8⟩
  | _, _ => ⟨S6x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3968x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3968x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/- The kernel program's run, with its three results: the run that shows the arguments unchanged, its last state read at the
   result arrays too. -/
module

public import proofs.«01_k».proof.Proof.Gen.KernelIdeal.Frame

@[expose] public section

set_option maxRecDepth 16384

noncomputable section

namespace Cert.Mx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the conclusion of the launch theorem is unified with this one, which takes unfolding plain definitions in a
-- metavariable's type
set_option backward.isDefEq.respectTransparency.types false in
/-- Every run of the kernel program terminates with its three result arrays at the last boundary's contents `W7` and its
    arguments unchanged. -/
theorem kernel_run : θ_run defs (onTc (τ := τ) (main (F := F))) ⟨m, fun _ => 0, ρ⟩ (fun r => ∀ c : Dev nD,
      r.2.mem ((c.tc : Thread nD τ).loc main_v8) = W7 m ρ c main_v8
      ∧ r.2.mem ((c.tc : Thread nD τ).loc main_v9) = W7 m ρ c main_v9
      ∧ r.2.mem ((c.tc : Thread nD τ).loc main_v10) = W7 m ρ c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v8 (by decide)), h c _ (mem_uc main_v9 (by decide)), h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.Mx

end
-- ==== Proof.Scalars.lean ====
/- The scalar mathematics of the quantiser, over the extended reals: the powers of two that an exponent field denotes,
   the field of a nonnegative number found by binary search and by counting, and the block exponent made of it. -/
module

public import Idealize.ShloMosaic.PureOps.Ideal
public import Idealize.ShloMosaic.PureOps.Ideal.Laws
public import Idealize.ShloMosaic.Lib.IndicatorCount

@[expose] public section

noncomputable section

namespace Cert.Mx

open Idealize.ShloMosaic
open scoped BigOperators

/-! ## Powers of two by their exponent field -/

/-- The f32 whose bits are the word `f` shifted to the exponent field. -/
def bitsPow (f : BitVec 32) : EReal := FloatOps.ofBits (F := Ideal) .f32 (IntOp.shli .vector f 23#32)

/-- What the exponent field `n` denotes with a zero significand and a clear sign. -/
def pw (n : ℕ) : EReal := if n = 0 then 0 else if n = 255 then ⊤ else (((2 : ℝ) ^ ((n : ℤ) - 127) : ℝ) : EReal)

/-- The three fields of the word `n <<< 23`, for every exponent field `n`. -/
theorem fields : ∀ n : Fin 256,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

/-- The bits of an exponent field read as that power of two. -/
theorem bitsPow_ofNat (n : ℕ) (h : n ≤ 255) : bitsPow (BitVec.ofNat 32 n) = pw n := by
  obtain ⟨h1, h2, h3⟩ := fields ⟨n, by omega⟩
  dsimp only at h1 h2 h3
  unfold bitsPow
  generalize IntOp.shli .vector (BitVec.ofNat 32 n) 23#32 = b at h1 h2 h3 ⊢
  show Ideal.ieee 8 23 b = _
  unfold Ideal.ieee
  dsimp only
  simp only [Nat.reduceAdd, h1, h2, h3]
  unfold pw
  by_cases h0 : n = 0
  · subst h0; simp
  by_cases h5 : n = 255
  · subst h5; simp
  · rw [if_neg (by norm_num; exact h5), if_neg h0, if_neg h0, if_neg h5]
    congr 1
    have e : ((n : ℤ) - 127) = ((n : ℤ) - (2 ^ (8 - 1) - 1) - (23 : ℕ)) + 23 := by norm_num
    rw [e, zpow_add₀ (by norm_num : (2 : ℝ) ≠ 0)]
    norm_num
    ring

/-- What a field denotes is not negative. -/
theorem pw_nonneg (n : ℕ) : 0 ≤ pw n := by
  unfold pw
  split_ifs
  · exact le_rfl
  · exact le_top
  · exact EReal.coe_nonneg.2 (by positivity)

/-- What a field below 255 denotes is finite. -/
theorem pw_ne_top {n : ℕ} (h : n ≤ 254) : pw n ≠ ⊤ := by
  unfold pw
  split_ifs
  · exact EReal.zero_ne_top
  · omega
  · exact EReal.coe_ne_top _

/-- A larger exponent field denotes a larger number. -/
theorem pw_mono {a b : ℕ} (h : a ≤ b) (hb : b ≤ 255) : pw a ≤ pw b := by
  unfold pw
  by_cases ha : a = 0
  · rw [if_pos ha]; exact pw_nonneg b
  rw [if_neg ha, if_neg (show b ≠ 0 by omega)]
  by_cases hb5 : b = 255
  · rw [if_pos hb5]; exact le_top
  rw [if_neg hb5, if_neg (show a ≠ 255 by omega)]
  exact EReal.coe_le_coe_iff.2 (zpow_le_zpow_right₀ (by norm_num) (by omega))

/-- Two to the exponent `e`, flushed to zero below the smallest normal number: the reference's `pow2`. -/
def refPow (e : BitVec 32) : EReal :=
  Scalar.select (IntOp.cmpi .slt e 4294967170#32) (FloatOps.ofBits (F := Ideal) .f32 0x00000000#32)
    (FloatOps.exp2 (F := Ideal) (φ := .f32) (FloatOps.sitofp (F := Ideal) .f32 e))

/-- At an unbiased exponent the flush to zero is taken exactly for the zero field, and the word reads as the exponent. -/
theorem refPow_facts : ∀ n : Fin 255,
    IntOp.cmpi .slt (BitVec.ofNat 32 n.val - 127#32) 4294967170#32 = (if n.val = 0 then 1#1 else 0#1)
    ∧ (BitVec.ofNat 32 n.val - 127#32).toInt = (n.val : ℤ) - 127 := by
  decide +kernel

/-- At the unbiased exponent of a field below 255 it is what the field denotes. -/
theorem refPow_eq (n : ℕ) (h : n ≤ 254) : refPow (BitVec.ofNat 32 n - 127#32) = pw n := by
  obtain ⟨h1, h2⟩ := refPow_facts ⟨n, by omega⟩
  dsimp only at h1 h2
  unfold refPow
  rw [h1]
  by_cases h0 : n = 0
  · subst h0
    show Ideal.ofBits .f32 0x00000000#32 = _
    rw [Ideal.ofBits_zero_f32]; simp [pw]
  · rw [if_neg h0]
    show Ideal.exp2 (((BitVec.ofNat 32 n - 127#32).toInt : ℝ) : EReal) = _
    rw [h2]
    unfold pw
    rw [if_neg h0, if_neg (by omega)]
    show ((Real.rpow 2 (((n : ℤ) - 127 : ℤ) : ℝ) : ℝ) : EReal) = _
    congr 1
    exact Real.rpow_intCast 2 _

/-! ## The exponent field of a number -/

/-- The exponent field of `t`: how many of the fields 1 … 255 denote at most `t`. -/
def fld (t : EReal) : ℕ := ((Finset.range 255).filter fun n => pw (n + 1) ≤ t).card

/-- A field is at most 255. -/
theorem fld_le (t : EReal) : fld t ≤ 255 := (Finset.card_filter_le _ _).trans (by simp)

/-- A field `f` denotes at most `t` exactly when it is at most the field of `t`. -/
theorem le_fld_iff (t : EReal) (f : ℕ) (h1 : 1 ≤ f) (h2 : f ≤ 255) : pw f ≤ t ↔ f ≤ fld t := by
  classical
  constructor
  · intro h
    have hs : Finset.range f ⊆ (Finset.range 255).filter fun n => pw (n + 1) ≤ t := by
      intro n hn
      rw [Finset.mem_range] at hn
      exact Finset.mem_filter.2 ⟨Finset.mem_range.2 (by omega), (pw_mono (by omega) h2).trans h⟩
    have hc := Finset.card_le_card hs
    rw [Finset.card_range] at hc
    exact hc
  · intro h
    by_contra hn
    have hs : ((Finset.range 255).filter fun n => pw (n + 1) ≤ t) ⊆ Finset.range (f - 1) := by
      intro n hn'
      obtain ⟨ha, hb⟩ := Finset.mem_filter.1 hn'
      rw [Finset.mem_range] at ha ⊢
      by_contra hc
      exact hn ((pw_mono (by omega) (by omega)).trans hb)
    have := Finset.card_le_card hs
    rw [Finset.card_range] at this
    unfold fld at h
    omega

/-- One step of the binary search: take the bit `b` unless `t` is below the power of two with it. -/
def step (t : EReal) (b f : BitVec 32) : BitVec 32 :=
  Scalar.select (FloatOps.cmpf (F := Ideal) (φ := .f32) .olt t (bitsPow (IntOp.addi f b))) f (IntOp.addi f b)

/-- The binary search, bit by bit. -/
def search (t : EReal) : BitVec 32 :=
  step t 1#32 (step t 2#32 (step t 4#32 (step t 8#32 (step t 16#32 (step t 32#32 (step t 64#32 (step t 128#32 0#32)))))))

/-- The step on naturals, against the field `N`. -/
def nstep (N b f : ℕ) : ℕ := if N < f + b then f else f + b

/-- One step of the search on words is the step on numbers. -/
theorem step_ofNat (t : EReal) (b f : ℕ) (hb : 1 ≤ b) (h : f + 2 * b ≤ 256) :
    step t (BitVec.ofNat 32 b) (BitVec.ofNat 32 f) = BitVec.ofNat 32 (nstep (fld t) b f) := by
  have ha : IntOp.addi (BitVec.ofNat 32 f) (BitVec.ofNat 32 b) = BitVec.ofNat 32 (f + b) := (BitVec.ofNat_add f b).symm
  unfold step nstep
  rw [ha, bitsPow_ofNat _ (by omega)]
  show Scalar.select (Ideal.cmp .olt t (pw (f + b))) _ _ = _
  have hi := le_fld_iff t (f + b) (by omega) (by omega)
  unfold Ideal.cmp
  by_cases hlt : t < pw (f + b)
  · rw [if_pos (by by_contra hc; exact absurd (hi.2 (by omega)) (not_le.2 hlt))]
    simp [hlt, Scalar.select]
  · rw [if_neg (by have := hi.1 (not_lt.1 hlt); omega)]
    simp [hlt, Scalar.select]

/-- A step leaves room for the smaller bits that remain. -/
theorem nstep_le (N b f : ℕ) (h : f + 2 * b ≤ 256) : nstep N b f + b ≤ 256 := by
  unfold nstep; split_ifs <;> omega

/-- Eight steps, from the top bit down, find any number below 256. -/
theorem nsearch : ∀ N : Fin 256,
    nstep N.val 1 (nstep N.val 2 (nstep N.val 4 (nstep N.val 8 (nstep N.val 16 (nstep N.val 32 (nstep N.val 64
      (nstep N.val 128 0))))))) = N.val := by
  decide +kernel

/-- The binary search finds the exponent field. -/
theorem search_eq (t : EReal) : search t = BitVec.ofNat 32 (fld t) := by
  have h1 := nstep_le (fld t) 128 0 (by norm_num)
  have h2 := nstep_le (fld t) 64 _ (by simpa using h1)
  have h3 := nstep_le (fld t) 32 _ (by simpa using h2)
  have h4 := nstep_le (fld t) 16 _ (by simpa using h3)
  have h5 := nstep_le (fld t) 8 _ (by simpa using h4)
  have h6 := nstep_le (fld t) 4 _ (by simpa using h5)
  have h7 := nstep_le (fld t) 2 _ (by simpa using h6)
  unfold search
  rw [show (0#32 : BitVec 32) = BitVec.ofNat 32 0 from rfl,
    step_ofNat t 128 0 (by norm_num) (by norm_num), step_ofNat t 64 _ (by norm_num) (by simpa using h1),
    step_ofNat t 32 _ (by norm_num) (by simpa using h2), step_ofNat t 16 _ (by norm_num) (by simpa using h3),
    step_ofNat t 8 _ (by norm_num) (by simpa using h4), step_ofNat t 4 _ (by norm_num) (by simpa using h5),
    step_ofNat t 2 _ (by norm_num) (by simpa using h6), step_ofNat t 1 _ (by norm_num) (by simpa using h7)]
  exact congrArg _ (nsearch ⟨fld t, by have := fld_le t; omega⟩)

/-- The count of the powers of two 2⁻¹²⁶ … 2¹²⁷ that are at most `t`, as the reference takes it. -/
def count (t : EReal) : BitVec 32 :=
  (Finset.univ : Finset (Fin 254)).fold IntOp.addi 0#32 fun k =>
    (FloatOps.cmpf (F := Ideal) (φ := .f32) .oge t (refPow (IntOp.subi (BitVec.ofNat 32 k.val) 126#32))).setWidth 32

/-- The exponents that the reference counts over are the unbiased fields from 1 on. -/
theorem iota_sub : ∀ k : Fin 254, IntOp.subi (BitVec.ofNat 32 k.val) 126#32 = BitVec.ofNat 32 (k.val + 1) - 127#32 := by
  decide +kernel

/-- How many of the fields 1 … 254 are at most a number. -/
theorem card_le : ∀ N : Fin 256, ((Finset.univ : Finset (Fin 254)).filter fun k => k.val + 1 ≤ N.val).card = min N.val 254 := by
  decide +kernel

/-- The count is the exponent field, the field of infinity counted as the one below it. -/
theorem count_eq (t : EReal) : count t = BitVec.ofNat 32 (min (fld t) 254) := by
  classical
  unfold count
  rw [IndicatorCount.fold_addi_setWidth_eq_card
    (fun k : Fin 254 => FloatOps.cmpf (F := Ideal) (φ := .f32) .oge t (refPow (IntOp.subi (BitVec.ofNat 32 k.val) 126#32)))]
  rw [← card_le ⟨fld t, by have := fld_le t; omega⟩]
  refine congrArg (fun s : Finset (Fin 254) => BitVec.ofNat 32 s.card) (Finset.filter_congr fun k _ => ?_)
  rw [iota_sub, refPow_eq _ (by have := k.isLt; omega)]
  show Ideal.cmp .oge t (pw (k.val + 1)) = 1#1 ↔ _
  rw [← le_fld_iff t (k.val + 1) (by omega) (by have := k.isLt; omega)]
  unfold Ideal.cmp
  by_cases h : pw (k.val + 1) ≤ t <;> simp [h]

/-! ## The block exponent -/

/-- The exponent of a field, zero for the zero field, clipped to ±127: the words both programs compute. -/
def expo (f : BitVec 32) : BitVec 32 :=
  IntOp.minsi 127#32 (IntOp.maxsi 4294967169#32 (Scalar.select (IntOp.cmpi .eq f 0#32) 0#32 (IntOp.subi f 126#32)))

/-- The biased block exponent (the scale code) of a field. -/
def code (n : ℕ) : ℕ := (IntOp.addi (expo (BitVec.ofNat 32 n)) 127#32).toNat

/-- The word arithmetic of the block exponent, for every field. -/
theorem expo_facts : ∀ n : Fin 256,
    expo (BitVec.ofNat 32 (min n.val 254)) = expo (BitVec.ofNat 32 n.val)
    ∧ code n.val ≤ 254
    ∧ IntOp.subi 127#32 (expo (BitVec.ofNat 32 n.val)) = BitVec.ofNat 32 (254 - code n.val)
    ∧ IntOp.subi 0#32 (expo (BitVec.ofNat 32 n.val)) = BitVec.ofNat 32 (254 - code n.val) - 127#32
    ∧ IntOp.addi 127#32 (expo (BitVec.ofNat 32 n.val)) = BitVec.ofNat 32 (code n.val)
    ∧ IntOp.subi (((IntOp.addi (expo (BitVec.ofNat 32 n.val)) 127#32).setWidth 8).setWidth 32) 127#32
        = BitVec.ofNat 32 (code n.val) - 127#32 := by
  decide +kernel

section
variable (t : EReal)

/-- The search's block exponent is the count's. -/
theorem expo_count : expo (count t) = expo (search t) := by
  rw [count_eq, search_eq]; exact (expo_facts ⟨fld t, by have := fld_le t; omega⟩).1

/-- The scale code of a block whose scaled maximum is `t`. -/
def codeOf : ℕ := code (fld t)

/-- A block's scale code is at most 254. -/
theorem codeOf_le : codeOf t ≤ 254 := (expo_facts ⟨fld t, by have := fld_le t; omega⟩).2.1

/-- The kernel's multiplier for a block, by its bits. -/
theorem inv_bits : bitsPow (IntOp.subi 127#32 (expo (search t))) = pw (254 - codeOf t) := by
  rw [search_eq, (expo_facts ⟨fld t, by have := fld_le t; omega⟩).2.2.1]
  exact bitsPow_ofNat _ (by omega)

/-- The reference's multiplier for a block. -/
theorem inv_ref : refPow (IntOp.subi 0#32 (expo (count t))) = pw (254 - codeOf t) := by
  rw [expo_count, search_eq, (expo_facts ⟨fld t, by have := fld_le t; omega⟩).2.2.2.1]
  exact refPow_eq _ (by omega)

/-- The kernel's scale of a block, by its bits. -/
theorem scale_bits : bitsPow (IntOp.addi 127#32 (expo (search t))) = pw (codeOf t) := by
  rw [search_eq, (expo_facts ⟨fld t, by have := fld_le t; omega⟩).2.2.2.2.1]
  exact bitsPow_ofNat _ ((codeOf_le t).trans (by norm_num))

/-- The reference's scale of a block, decoded from its scale code. -/
theorem scale_ref :
    refPow (IntOp.subi (((IntOp.addi (expo (count t)) 127#32).setWidth 8).setWidth 32) 127#32) = pw (codeOf t) := by
  rw [expo_count, search_eq, (expo_facts ⟨fld t, by have := fld_le t; omega⟩).2.2.2.2.2]
  exact refPow_eq _ (codeOf_le t)

end

/-! ## The decoded scale of a weight block -/

/-- The reference's decoding of a scale code other than 255. -/
theorem weight_ref (s : BitVec 8) (h : s ≠ 255#8) : refPow (IntOp.subi (s.setWidth 32) 127#32) = pw s.toNat := by
  have hs : s.toNat ≤ 254 := by
    have h1 := s.isLt
    have h2 : s.toNat ≠ 255 := fun e => h (BitVec.eq_of_toNat_eq (by simpa using e))
    omega
  have e : s.setWidth 32 = BitVec.ofNat 32 s.toNat := by
    apply BitVec.eq_of_toNat_eq; simp
  rw [e]; exact refPow_eq _ hs

/-- A scale code as a float, converted back to a word, is its value. -/
theorem fptosi_scale (s : BitVec 8) :
    FloatOps.fptosi (F := Ideal) (φ := .f32) 32 (FloatOps.sitofp (F := Ideal) .f32 (s.setWidth 32)) = BitVec.ofNat 32 s.toNat := by
  have e : (s.setWidth 32).toInt = (s.toNat : ℤ) := by
    have := s.isLt
    rw [BitVec.toInt_eq_toNat_of_lt (by rw [BitVec.toNat_setWidth, Nat.mod_eq_of_lt (by omega)]; omega),
      BitVec.toNat_setWidth, Nat.mod_eq_of_lt (by omega)]
  show Ideal.fptosi 32 (((s.setWidth 32).toInt : ℝ) : EReal) = _
  rw [e]
  have hs := s.isLt
  show BitVec.ofInt 32 (max (-((2 ^ 31 : ℕ) : ℤ)) (min (((2 ^ 31 : ℕ) : ℤ) - 1)
    (if (0 : ℝ) ≤ (((s.toNat : ℤ)) : ℝ) then ⌊(((s.toNat : ℤ)) : ℝ)⌋ else ⌈(((s.toNat : ℤ)) : ℝ)⌉))) = _
  rw [Int.floor_intCast, Int.ceil_intCast, ite_self,
    show max (-((2 ^ 31 : ℕ) : ℤ)) (min (((2 ^ 31 : ℕ) : ℤ) - 1) (s.toNat : ℤ)) = ((s.toNat : ℕ) : ℤ) by omega,
    BitVec.ofInt_natCast]

/-! ## A sum with a constant factor -/

/-- A factor that is nonnegative and finite goes into a sum. -/
theorem sum_mul {ι : Type*} (s : Finset ι) (f : ι → EReal) (r : EReal) (h0 : 0 ≤ r) (h1 : r ≠ ⊤) :
    (∑ i ∈ s, f i) * r = ∑ i ∈ s, f i * r := by
  classical
  induction s using Finset.induction_on with
  | empty => simp
  | insert a s ha ih =>
    rw [Finset.sum_insert ha, Finset.sum_insert ha, ← ih, mul_comm, mul_comm (f a), mul_comm _ r,
      EReal.left_distrib_of_nonneg_of_ne_top h0 h1]

end Cert.Mx

end
-- ==== Proof.Spec.lean ====
/- What both programs compute, entry by entry: the quantised codes, the scale codes and the product of the
   quantised operands, block by block. -/
module

public import proofs.«01_k».proof.Proof.Scalars
public import Idealize.ShloMosaic.Lib.Pointwise

@[expose] public section

noncomputable section

namespace Cert.Mx

open Idealize.ShloMosaic
open scoped BigOperators

/-- The scaled maximum of a block of 32: its largest magnitude times 1/448. -/
def tmax (f : Fin 32 → EReal) : EReal :=
  ((Finset.univ : Finset (Fin 32)).fold max (Ideal.ofBits .f32 0xFF800000#32) fun j => max (f j) (-(f j)))
    * Ideal.ofBits .f32 0x3B124925#32

/-- The code of `v` in a block whose scaled maximum is `t`. -/
def quant (t v : EReal) : EReal :=
  min (Ideal.ofBits .f32 0x43E00000#32) (max (Ideal.ofBits .f32 0xC3E00000#32) (v * pw (254 - codeOf t)))

/-- The scale code of a block whose scaled maximum is `t`. -/
def scaleCode (t : EReal) : BitVec 8 := (IntOp.addi (expo (search t)) 127#32).setWidth 8

/-- Block `g` of row `r` of sample `s`. -/
def blk (x : (⟨3, ![6, 4096, 4096]⟩ : Shape).Idx → EReal) (s : Fin 6) (r : Fin 4096) (g : Fin 128) : Fin 32 → EReal :=
  fun j => x (ix3 s r ⟨g.val * 32 + j.val, by omega⟩)

/-- Its scaled maximum. -/
def bmax (x : (⟨3, ![6, 4096, 4096]⟩ : Shape).Idx → EReal) (s : Fin 6) (r : Fin 4096) (g : Fin 128) : EReal :=
  tmax (blk x s r g)

/-- The code at position `k` of row `r` of sample `s`. -/
def codeAt (x : (⟨3, ![6, 4096, 4096]⟩ : Shape).Idx → EReal) (s : Fin 6) (r : Fin 4096) (k : Fin 4096) : EReal :=
  quant (bmax x s r ⟨k.val / 32, by omega⟩) (x (ix3 s r k))

/-- The product at row `r` of sample `s` and output `n`, block by block: the block's sum of products of codes, times the
    scale of the row's block, times the scale of the weight's block. -/
def prodAt (x : (⟨3, ![6, 4096, 4096]⟩ : Shape).Idx → EReal) (w : (⟨2, ![3968, 4096]⟩ : Shape).Idx → EReal)
    (ws : (⟨2, ![3968, 128]⟩ : Shape).Idx → BitVec 8) (s : Fin 6) (r : Fin 4096) (n : Fin 3968) : EReal :=
  ∑ g : Fin 128, (∑ j : Fin 32, codeAt x s r ⟨g.val * 32 + j.val, by omega⟩ * w (ix2 n ⟨g.val * 32 + j.val, by omega⟩))
    * pw (codeOf (bmax x s r g)) * pw (ws (ix2 n g)).toNat

end Cert.Mx

end
-- ==== Proof.KernelRead.lean ====
/- What the kernel's two bodies compute, entry by entry: the decoded weight block, the block's codes and scale codes, the
   dequantised operand and the products. -/
module

public import proofs.«01_k».proof.Proof.Spec
public import proofs.«01_k».proof.Proof.Gen.KernelIdeal.Skeleton
public import Idealize.ShloMosaic.Lib.Pipeline.Value

@[expose] public section

set_option maxRecDepth 16384

noncomputable section

namespace Cert.Mx

open Idealize.ShloMosaic Idealize.ShloMosaic.TcCoe
open Cert.KernelIdeal Cert.KernelIdeal.Gen

/-- A bf16 maximum along the middle axis of a rank-3 array, at an index, is the fold of `max` along that axis. -/
theorem max3 {n0 n1 n2 : ℕ} (v : FVec Ideal ⟨3, ![n0, n1, n2]⟩ .bf16) (acc : BitVec 16)
    (h : (⟨3, ![n0, n1, n2]⟩ : Shape).Reduces [1] ⟨2, ![n0, n2]⟩)
    (hφ : FKind.Formats .bf16) (hacc : acc = FKind.maximumf.neutral .bf16 hφ) (a : Fin n0) (b : Fin n2) :
    multiReduction .maximumf [1] ⟨2, ![n0, n2]⟩ v acc h hφ hacc (ix2 a b)
      = (Finset.univ : Finset (Fin n1)).fold max (Ideal.ofBits .bf16 acc) fun j => v (ix3 a j b) := by
  rw [multiReduction_maximumf_eq_fold]
  exact h.fold_fiber_r3_a1 (ix2 a b) _ _ v

/-- The two formats' negative infinities are one number. -/
theorem neg_inf : Ideal.ofBits .bf16 0xFF80#16 = Ideal.ofBits .f32 0xFF800000#32 := by
  show Ideal.ieee 8 7 0xFF80#16 = Ideal.ieee 8 23 0xFF800000#32
  unfold Ideal.ieee
  have h1 : ((0xFF80#16 : BitVec 16).extractLsb' 7 8).toNat = 255 := by decide
  have h2 : ((0xFF80#16 : BitVec 16).extractLsb' 0 7).toNat = 0 := by decide
  have h3 : ((0xFF80#16 : BitVec 16).extractLsb' 15 1 == 1#1) = true := by decide
  have h4 : ((0xFF800000#32 : BitVec 32).extractLsb' 23 8).toNat = 255 := by decide
  have h5 : ((0xFF800000#32 : BitVec 32).extractLsb' 0 23).toNat = 0 := by decide
  have h6 : ((0xFF800000#32 : BitVec 32).extractLsb' 31 1 == 1#1) = true := by decide
  simp [h1, h2, h3, h4, h5, h6]

/-! ## The block exponents -/

/-- Block `g` of row `c` of the kernel's block of rows. -/
def kblk (x0 : Vec Ideal S256x4096 .bf16) (c : Fin 256) (g : Fin 128) : Fin 32 → EReal :=
  fun j => x0 (ix2 c ⟨g.val * 32 + j.val, by omega⟩)

/-- The largest magnitude of every block, the blocks along the middle axis. -/
def kM (v : FVec Ideal S128x32x256 .bf16) : FVec Ideal S128x256 .bf16 :=
  multiReduction .maximumf [1] S128x256 v 0xFF80#16 reduces_S128x32x256_S128x256 (.inr rfl) rfl

/-- The magnitudes, cut into blocks. -/
def kAbs (x0 : Vec Ideal S256x4096 .bf16) : FVec Ideal S128x32x256 .bf16 :=
  shapeCast S128x32x256 (absf (k1_pay5 x0)) shapeCasts_S4096x256_S128x32x256

/-- The largest magnitudes, scaled. -/
def kT (M : FVec Ideal S128x256 .bf16) : FVec Ideal S128x256 .f32 :=
  mulf (extf .f32 M bitsLt_bf16_f32) (broadcast S128x256 (Scalar.ofBits .f32 0x3B124925#32))

/-- The scaled maxima of the blocks, in three steps: absolute values, block maxima, the scaling. -/
theorem pay6_eq (x0 : Vec Ideal S256x4096 .bf16) : k1_pay6 x0 = kT (kM (kAbs x0)) := rfl

/-- A block's maximum is the fold of `max` over its 32 entries. -/
theorem kM_apply (v : FVec Ideal S128x32x256 .bf16) (g : Fin 128) (c : Fin 256) :
    kM v (ix2 g c) = (Finset.univ : Finset (Fin 32)).fold max (Ideal.ofBits .bf16 0xFF80#16) fun j => v (ix3 g j c) :=
  max3 v _ _ _ _ g c

/-- The scaling multiplies each maximum by the constant 1/448. -/
theorem kT_apply (M : FVec Ideal S128x256 .bf16) (g : Fin 128) (c : Fin 256) :
    kT M (ix2 g c) = M (ix2 g c) * Ideal.ofBits .f32 0x3B124925#32 := rfl

/-- The transposed block of rows. -/
theorem kpay5_apply (x0 : Vec Ideal S256x4096 .bf16) (k : Fin 4096) (c : Fin 256) : k1_pay5 x0 (ix2 k c) = x0 (ix2 c k) := by
  pointwise [k1_pay5]

/-- An entry of the transposed block of rows, in absolute value. -/
theorem kAbs_apply (x0 : Vec Ideal S256x4096 .bf16) (g : Fin 128) (j : Fin 32) (c : Fin 256) :
    kAbs x0 (ix3 g j c) = max (kblk x0 c g j) (-(kblk x0 c g j)) := by
  pointwise [kAbs, k1_pay5]
  rfl

/-- The scaled maxima of the kernel's blocks. -/
theorem kpay6_apply (x0 : Vec Ideal S256x4096 .bf16) (g : Fin 128) (c : Fin 256) :
    k1_pay6 x0 (ix2 g c) = tmax (kblk x0 c g) := by
  rw [pay6_eq, kT_apply, kM_apply, neg_inf]
  unfold tmax
  exact congrArg (fun a : EReal => a * Ideal.ofBits .f32 0x3B124925#32) (Finset.fold_congr fun j _ => kAbs_apply x0 g j c)

/-- The flag of the zero field, in the body. -/
abbrev kZ (x0 : Vec Ideal S256x4096 .bf16) : IVec S128x256 1 := k1_pay10 (k1_pay6 x0) (k1_pay7 x0) (k1_pay8 x0)
/-- The field less 126, in the body. -/
abbrev kD (x0 : Vec Ideal S256x4096 .bf16) : IVec S128x256 32 := k1_pay11 (k1_pay6 x0) (k1_pay7 x0) (k1_pay8 x0)

/-- The body's binary search. -/
theorem kpay9_apply (x0 : Vec Ideal S256x4096 .bf16) (i : S128x256.Idx) :
    k1_pay9 (k1_pay6 x0) (k1_pay7 x0) (k1_pay8 x0) i = search (k1_pay6 x0 i) := rfl

/-- The block exponents of the body. -/
theorem kpay13_apply (x0 : Vec Ideal S256x4096 .bf16) (g : Fin 128) (c : Fin 256) :
    k1_pay13 (kZ x0) (kD x0) k1_pay12 (ix2 g c) = expo (search (tmax (kblk x0 c g))) := by
  rw [← kpay6_apply, ← kpay9_apply]
  rfl

/-! ## The codes -/

/-- The codes before their layout, for any exponents. -/
theorem kpay14_raw (v2 : FVec Ideal S4096x256 .bf16) (v83 : IVec S128x256 1) (v85 v86 : IVec S128x256 32) (k : Fin 4096) (c : Fin 256) :
    k1_pay14 v2 v83 v85 v86 (ix2 k c) = min (Ideal.ofBits .f32 0x43E00000#32) (max (Ideal.ofBits .f32 0xC3E00000#32)
      (v2 (ix2 k c) * bitsPow (IntOp.subi 127#32 (k1_pay13 v83 v85 v86 (ix2 ⟨k.val / 32, by omega⟩ c))))) := by
  pointwise [k1_pay14, bitsPow]

/-- The body's codes, by position and row. -/
theorem kpay14_apply (x0 : Vec Ideal S256x4096 .bf16) (k : Fin 4096) (c : Fin 256) :
    k1_pay14 (k1_pay5 x0) (kZ x0) (kD x0) k1_pay12 (ix2 k c) = quant (tmax (kblk x0 c ⟨k.val / 32, by omega⟩)) (x0 (ix2 c k)) := by
  rw [kpay14_raw, kpay13_apply, inv_bits, kpay5_apply]
  rfl

/-- The dequantised operand, for any exponents. -/
theorem kpay15_raw (v2 : FVec Ideal S4096x256 .bf16) (v83 : IVec S128x256 1) (v85 v86 : IVec S128x256 32) (k : Fin 4096) (c : Fin 256) :
    k1_pay15 v2 v83 v85 v86 (ix2 k c) = k1_pay14 v2 v83 v85 v86 (ix2 k c)
      * bitsPow (IntOp.addi 127#32 (k1_pay13 v83 v85 v86 (ix2 ⟨k.val / 32, by omega⟩ c))) := by
  pointwise [k1_pay15, bitsPow]

/-- The dequantised operand: the code times its block's scale. -/
theorem kpay15_apply (x0 : Vec Ideal S256x4096 .bf16) (k : Fin 4096) (c : Fin 256) :
    k1_pay15 (k1_pay5 x0) (kZ x0) (kD x0) k1_pay12 (ix2 k c)
      = quant (tmax (kblk x0 c ⟨k.val / 32, by omega⟩)) (x0 (ix2 c k)) * pw (codeOf (tmax (kblk x0 c ⟨k.val / 32, by omega⟩))) := by
  rw [kpay15_raw, kpay14_apply, kpay13_apply, scale_bits]

/-- The codes the body stores. -/
theorem kpay16_apply (x0 : Vec Ideal S256x4096 .bf16) (c : Fin 256) (k : Fin 4096) :
    k1_pay16 (k1_pay5 x0) (kZ x0) (kD x0) k1_pay12 (ix2 c k) = quant (tmax (kblk x0 c ⟨k.val / 32, by omega⟩)) (x0 (ix2 c k)) := by
  rw [← kpay14_apply]
  pointwise [k1_pay16]

/-- The scale codes the body stores. -/
theorem kpay17_apply (x0 : Vec Ideal S256x4096 .bf16) (c : Fin 256) (g : Fin 128) :
    k1_pay17 (kZ x0) (kD x0) k1_pay12 (ix2 c g) = scaleCode (tmax (kblk x0 c g)) := by
  unfold scaleCode
  rw [← kpay13_apply]
  pointwise [k1_pay17]

/-! ## The products -/

/-- The first tile of products, entry by entry. -/
theorem kpay1_apply (v : FVec Ideal S4096x256 .bf16) (w : Vec Ideal S1024x4096 .bf16) (c : Fin 256) (n : Fin 1024) :
    k1_pay1 v w (ix2 c n) = ∑ k : Fin 4096, w (ix2 n k) * v (ix2 k c) := by
  pointwise [k1_pay1]
/-- The second tile of products, entry by entry. -/
theorem kpay2_apply (v : FVec Ideal S4096x256 .bf16) (w : Vec Ideal S1024x4096 .bf16) (c : Fin 256) (n : Fin 1024) :
    k1_pay2 v w (ix2 c n) = ∑ k : Fin 4096, w (ix2 n k) * v (ix2 k c) := by
  pointwise [k1_pay2]
/-- The third tile of products, entry by entry. -/
theorem kpay3_apply (v : FVec Ideal S4096x256 .bf16) (w : Vec Ideal S1024x4096 .bf16) (c : Fin 256) (n : Fin 1024) :
    k1_pay3 v w (ix2 c n) = ∑ k : Fin 4096, w (ix2 n k) * v (ix2 k c) := by
  pointwise [k1_pay3]
/-- The fourth, narrower tile of products, entry by entry. -/
theorem kpay4_apply (v : FVec Ideal S4096x256 .bf16) (w : Vec Ideal S896x4096 .bf16) (c : Fin 256) (n : Fin 896) :
    k1_pay4 v w (ix2 c n) = ∑ k : Fin 4096, w (ix2 n k) * v (ix2 k c) := by
  pointwise [k1_pay4]

/-! ## The decoded weights -/

/-- The body of the weight decoding: the code times the power of two of the sum of the row's scale codes against a column of
    the expansion. -/
theorem wpay_raw (ws : Vec Ideal S128x128 .i8) (ex : Vec Ideal S128x4096 .bf16) (wc : Vec Ideal S128x4096 .fp8e4m3)
    (n : Fin 128) (k : Fin 4096) :
    k0_pay1 ws ex wc (ix2 n k) = wc (ix2 n k) * bitsPow (FloatOps.fptosi (F := Ideal) (φ := .f32) 32
      (∑ g : Fin 128, FloatOps.sitofp (F := Ideal) .f32 ((ws (ix2 n g)).setWidth 32) * ex (ix2 g k))) := by
  pointwise [k0_pay1, bitsPow]

/-- Against the expansion that repeats every scale 32 times, the code times the decoded scale of its block. -/
theorem wpay_apply (ws : Vec Ideal S128x128 .i8) (ex : Vec Ideal S128x4096 .bf16) (wc : Vec Ideal S128x4096 .fp8e4m3)
    (hex : ∀ (g : Fin 128) (k : Fin 4096), ex (ix2 g k) = if k.val / 32 = g.val then 1 else 0)
    (n : Fin 128) (k : Fin 4096) :
    k0_pay1 ws ex wc (ix2 n k) = wc (ix2 n k) * pw (ws (ix2 n ⟨k.val / 32, by omega⟩)).toNat := by
  rw [wpay_raw]
  have hs : (∑ g : Fin 128, FloatOps.sitofp (F := Ideal) .f32 ((ws (ix2 n g)).setWidth 32) * ex (ix2 g k))
      = FloatOps.sitofp (F := Ideal) .f32 ((ws (ix2 n ⟨k.val / 32, by omega⟩)).setWidth 32) := by
    rw [Finset.sum_eq_single (⟨k.val / 32, by omega⟩ : Fin 128)]
    · rw [hex, if_pos rfl]; exact mul_one _
    · intro g _ hg
      rw [hex, if_neg (fun h => hg (Fin.ext h.symm))]; exact mul_zero _
    · intro h; exact absurd (Finset.mem_univ _) h
  rw [hs, fptosi_scale, bitsPow_ofNat _ (by have := (ws (ix2 n ⟨k.val / 32, by omega⟩)).isLt; omega)]

end Cert.Mx

end
-- ==== Proof.Weights.lean ====
/- What the first launch leaves: every weight's code times the decoded scale of its block. -/
module

public import proofs.«01_k».proof.Proof.KernelRead
public import proofs.«01_k».proof.Proof.Gen.KernelIdeal.Frame
public import Idealize.ShloMosaic.Lib.Pipeline.ValueKit

@[expose] public section

set_option maxRecDepth 16384

noncomputable section

namespace Cert.Mx

open Idealize.ShloMosaic Idealize.ShloMosaic.TcCoe
open Cert.KernelIdeal Cert.KernelIdeal.Gen

/-- The block indices of the first launch: window by window, the point's number along the rows, or the whole array. -/
theorem idx0 : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, win0_0.index t = ![t.val, 0] ∧ win0_1.index t = ![t.val, 0] ∧ win0_2.index t = ![0, 0]
    ∧ win0_3.index t = ![t.val, 0])

/-- The decoded weights: every code times the decoded scale of its block of 32. -/
def wdeq (wc : S3968x4096.Idx → EReal) (ws : S3968x128.Idx → BitVec 8) : S3968x4096.Idx → EReal := fun i =>
  wc (ix2 (n0 := 3968) (n1 := 4096) (i 0) (i 1))
    * pw (ws (ix2 (n0 := 3968) (n1 := 128) (i 0) ⟨(i 1).val / 32, Nat.div_lt_of_lt_mul (show (i 1).val < 32 * 128 from (i 1).isLt)⟩)).toNat

variable (V : (c : Dev nD) → (b : Ref sig .tc) → Buf (Elt Ideal) ((c : Thread nD τ).loc b))

/-- The weight call's grid has 31 points. -/
theorem tlt (t : Fin cfg0.N) : t.val < 31 := t.isLt

/-- The point's block of weight codes is 128 rows of the array. -/
theorem iblk0_codes (c : Dev nD) (t : Fin cfg0.N) (n : Fin 128) (k : Fin 4096) :
    iblk0 V c 0 t (ix2 n k) = V c main_arg1 (ix2 ⟨t.val * 128 + n.val, by have := tlt t; omega⟩ k) := by
  have e := (idx0 t).1
  blk_ext [iblk0, e]

/-- The point's block of scale codes is 128 rows of the array. -/
theorem iblk0_scales (c : Dev nD) (t : Fin cfg0.N) (n : Fin 128) (g : Fin 128) :
    iblk0 V c 1 t (ix2 n g) = V c main_arg2 (ix2 ⟨t.val * 128 + n.val, by have := tlt t; omega⟩ g) := by
  have e := (idx0 t).2.1
  blk_ext [iblk0, e]

/-- The expansion is fetched whole. -/
theorem iblk0_expand (c : Dev nD) (t : Fin cfg0.N) (g : Fin 128) (k : Fin 4096) :
    iblk0 V c 2 t (ix2 g k) = V c main_v4 (ix2 g k) := by
  have e := (idx0 t).2.2.1
  blk_ext [iblk0, e]

/-- Where the point's result block lies in the array. -/
theorem emb0_3 (t : Fin cfg0.N) (n : Fin 128) (k : Fin 4096) :
    ((View.whole main_v5).slice (win0_3.rect t)).emb (ix2 n k) = ix2 ⟨t.val * 128 + n.val, by have := tlt t; omega⟩ k := by
  have e := (idx0 t).2.2.2
  blk_ext [e]

/-- The first launch's result array, when the expansion it is given repeats every scale 32 times. -/
theorem weights (c : Dev nD)
    (hex : ∀ (g : Fin 128) (k : Fin 4096), V c main_v4 (ix2 g k) = if k.val / 32 = g.val then (1 : EReal) else 0) :
    (dat0 V c).arrAt 3 cfg0.N = wdeq (V c main_arg1) (V c main_arg2) := by
  refine (dat0 V c).arrAt_eq_of_covers 3 _ (by decide +kernel) fun t hf y => ?_
  blk_simp
  rw [after0_3]
  frame_out
  have hy : y = ix2 (n0 := 128) (n1 := 4096) (y 0) (y 1) := eq_ix2 y
  rw [hy]
  refine (wpay_apply _ _ _ (fun g k => (iblk0_expand V c t g k).trans (hex g k)) (y 0) (y 1)).trans ?_
  refine (congrArg₂ (fun (a : EReal) (b : BitVec 8) => a * pw b.toNat) (iblk0_codes V c t (y 0) (y 1)) (iblk0_scales V c t (y 0) _)).trans ?_
  exact congrArg (wdeq (V c main_arg1) (V c main_arg2)) (emb0_3 t (y 0) (y 1)).symm

end Cert.Mx

end
-- ==== Proof.MainCall.lean ====
/- What the second launch leaves in its three result arrays, from the rows and the decoded weights that it is given. -/
module

public import proofs.«01_k».proof.Proof.KernelRead
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Mx

open Idealize.ShloMosaic Idealize.ShloMosaic.TcCoe
open Cert.KernelIdeal Cert.KernelIdeal.Gen

/-- The block indices of the second launch: the point's number along the rows, or the whole array. -/
theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] :=
  (by decide +kernel : ∀ t : Fin grid1.N, win1_0.index t = ![t.val, 0] ∧ win1_1.index t = ![0, 0] ∧ win1_2.index t = ![t.val, 0]
    ∧ win1_3.index t = ![t.val, 0] ∧ win1_4.index t = ![t.val, 0])

/-- The main call's grid has 96 points. -/
theorem tlt1 (t : Fin cfg1.N) : t.val < 96 := t.isLt

variable (V : (c : Dev nD) → (b : Ref sig .tc) → Buf (Elt Ideal) ((c : Thread nD τ).loc b))

/-- The point's block of rows is 256 rows of the array. -/
theorem iblk1_rows (c : Dev nD) (t : Fin cfg1.N) (r : Fin 256) (k : Fin 4096) :
    iblk1 V c 0 t (ix2 r k) = V c main_v6 (ix2 ⟨t.val * 256 + r.val, by have := tlt1 t; omega⟩ k) := by
  have e := (idx1 t).1
  blk_ext [iblk1, e]

/-- The decoded weights are fetched whole. -/
theorem iblk1_weights (c : Dev nD) (t : Fin cfg1.N) (n : Fin 3968) (k : Fin 4096) :
    iblk1 V c 1 t (ix2 n k) = V c main_v5 (ix2 n k) := by
  have e := (idx1 t).2.1
  blk_ext [iblk1, e]

/-- Where the point's result blocks lie in their arrays. -/
theorem emb1_2 (t : Fin cfg1.N) (r : Fin 256) (n : Fin 3968) :
    ((View.whole main_v7_0).slice (win1_2.rect t)).emb (ix2 r n) = ix2 ⟨t.val * 256 + r.val, by have := tlt1 t; omega⟩ n := by
  have e := (idx1 t).2.2.1
  blk_ext [e]
/-- A grid point's block of codes is 256 rows of the array. -/
theorem emb1_3 (t : Fin cfg1.N) (r : Fin 256) (k : Fin 4096) :
    ((View.whole main_v7_1).slice (win1_3.rect t)).emb (ix2 r k) = ix2 ⟨t.val * 256 + r.val, by have := tlt1 t; omega⟩ k := by
  have e := (idx1 t).2.2.2.1
  blk_ext [e]
/-- A grid point's block of scales is 256 rows of the array. -/
theorem emb1_4 (t : Fin cfg1.N) (r : Fin 256) (g : Fin 128) :
    ((View.whole main_v7_2).slice (win1_4.rect t)).emb (ix2 r g) = ix2 ⟨t.val * 256 + r.val, by have := tlt1 t; omega⟩ g := by
  have e := (idx1 t).2.2.2.2
  blk_ext [e]

/-- Block `g` of row `R` of the rows. -/
def rblk (X : S24576x4096.Idx → EReal) (R : Fin 24576) (g : Fin 128) : Fin 32 → EReal :=
  fun j => X (ix2 R ⟨g.val * 32 + j.val, by omega⟩)

/-- A block of the point's rows is the block of the array's row. -/
theorem kblk_eq (c : Dev nD) (t : Fin cfg1.N) (r : Fin 256) (g : Fin 128) :
    kblk (iblk1 V c 0 t) r g = rblk (V c main_v6) ⟨t.val * 256 + r.val, by have := tlt1 t; omega⟩ g :=
  funext fun j => iblk1_rows V c t r _

/-- The codes of the rows. -/
def rcode (X : S24576x4096.Idx → EReal) (R : Fin 24576) (k : Fin 4096) : EReal :=
  quant (tmax (rblk X R ⟨k.val / 32, by omega⟩)) (X (ix2 R k))

/-- The product of a row's dequantised codes and a row of the decoded weights. -/
def rprod (X : S24576x4096.Idx → EReal) (W : S3968x4096.Idx → EReal) (R : Fin 24576) (n : Fin 3968) : EReal :=
  ∑ k : Fin 4096, W (ix2 n k) * (rcode X R k * pw (codeOf (tmax (rblk X R ⟨k.val / 32, by omega⟩))))

/-- The codes that a point stores are the codes of the array's rows. -/
theorem codes_at (c : Dev nD) (t : Fin cfg1.N) (r : Fin 256) (k : Fin 4096) :
    quant (tmax (kblk (iblk1 V c 0 t) r ⟨k.val / 32, by omega⟩)) (iblk1 V c 0 t (ix2 r k))
      = rcode (V c main_v6) ⟨t.val * 256 + r.val, by have := tlt1 t; omega⟩ k := by
  rw [kblk_eq, iblk1_rows]
  rfl

/-- The second launch's codes. -/
theorem main_codes (c : Dev nD) :
    (dat1 V c).arrAt 3 cfg1.N = fun i : S24576x4096.Idx => rcode (V c main_v6) (i 0) (i 1) := by
  refine (dat1 V c).arrAt_eq_of_covers 3 _ (by decide +kernel) fun t hf y => ?_
  blk_simp
  rw [after1_3]
  frame_out
  have hy : y = ix2 (n0 := 256) (n1 := 4096) (y 0) (y 1) := eq_ix2 y
  rw [hy]
  refine (kpay16_apply (iblk1 V c 0 t) (y 0) (y 1)).trans ?_
  refine (codes_at V c t (y 0) (y 1)).trans ?_
  exact congrArg (fun i : S24576x4096.Idx => rcode (V c main_v6) (i 0) (i 1)) (emb1_3 t (y 0) (y 1)).symm

/-- The scale codes of the rows, as an array. -/
def rscales (X : S24576x4096.Idx → EReal) : S24576x128.Idx → BitVec 8 := fun i => scaleCode (tmax (rblk X (i 0) (i 1)))

/-- A point's scale codes, where they lie in the array. -/
theorem scales_emb (c : Dev nD) (t : Fin cfg1.N) (r : Fin 256) (g : Fin 128) :
    k1_pay17 (kZ (iblk1 V c 0 t)) (kD (iblk1 V c 0 t)) k1_pay12 (ix2 r g)
      = rscales (V c main_v6) (((View.whole main_v7_2).slice (win1_4.rect t)).emb (ix2 r g)) := by
  rw [emb1_4, kpay17_apply, kblk_eq]
  rfl

/-- The second launch's scale codes. -/
theorem main_scales (c : Dev nD) : (dat1 V c).arrAt 4 cfg1.N = rscales (V c main_v6) := by
  refine (dat1 V c).arrAt_eq_of_covers 4 _ (by decide +kernel) fun t hf y => ?_
  blk_simp
  rw [after1_4]
  frame_out
  have hy : y = ix2 (n0 := 256) (n1 := 128) (y 0) (y 1) := eq_ix2 y
  rw [hy]
  exact scales_emb V c t (y 0) (y 1)

/-- Row `r` of the products of dequantised codes `v` (stored transposed) and weights `w`, at the weights' row `n`. -/
def dotAt (v : FVec Ideal S4096x256 .bf16) (w : Vec Ideal S3968x4096 .bf16) (r : Fin 256) (n : Fin 3968) : EReal :=
  ∑ k : Fin 4096, w (ix2 n k) * v (ix2 k r)

/-- A column store of the products, from a load of the rows of weights it is for. -/
theorem dot_tile {N : ℕ} (v : FVec Ideal S4096x256 .bf16) (w : Vec Ideal S3968x4096 .bf16) (u : (⟨2, ![N, 4096]⟩ : Shape).Idx → EReal)
    (r : Fin 256) (n : Fin N) (r' : Fin 256) (n' : Fin 3968) (h0 : r'.val = r.val) (hw : ∀ k : Fin 4096, u (ix2 n k) = w (ix2 n' k)) :
    ∑ k : Fin 4096, u (ix2 n k) * v (ix2 k r) = dotAt v w r' n' := by
  obtain rfl : r' = r := Fin.ext h0
  exact Finset.sum_congr rfl fun k _ => by rw [hw k]

/-- The four column stores of the products: the canon of the four tiles is the product against the whole weights. -/
theorem prod_tiles (v : FVec Ideal S4096x256 .bf16) (w : Vec Ideal S3968x4096 .bf16) (y : S256x3968.Idx) :
    View.canon (Val := Elt Ideal) (s := S256x3968) (e := .bf16)
      [⟨Rect.unit ![0, 3072] ![256, 896] (by decide), k1_pay4 v (View.ld w (Rect.unit ![3072, 0] ![896, 4096] (by decide)))⟩,
       ⟨Rect.unit ![0, 2048] ![256, 1024] (by decide), k1_pay3 v (View.ld w (Rect.unit ![2048, 0] ![1024, 4096] (by decide)))⟩,
       ⟨Rect.unit ![0, 1024] ![256, 1024] (by decide), k1_pay2 v (View.ld w (Rect.unit ![1024, 0] ![1024, 4096] (by decide)))⟩,
       ⟨Rect.unit ![0, 0] ![256, 1024] (by decide), k1_pay1 v (View.ld w (Rect.unit ![0, 0] ![1024, 4096] (by decide)))⟩] y
      = dotAt v w (y 0) (y 1) := by
  canon_tiles x h using View.cover_of_tiledBy _ ![256, 128] (by sl_kernel_rfl) y
  · have hx : x = ix2 (n0 := 256) (n1 := 896) (x 0) (x 1) := eq_ix2 x
    rw [hx]
    exact (kpay4_apply v _ (x 0) (x 1)).trans (dot_tile v w _ (x 0) (x 1) (y 0) (y 1) h0 fun k =>
      View.ld_unit_apply_of w ![3072, 0] ![896, 4096] _ _ (ix2 (y 1) k) (Fin.forall_fin_two.2 ⟨h1, (Nat.zero_add _).symm⟩))
  · have hx : x = ix2 (n0 := 256) (n1 := 1024) (x 0) (x 1) := eq_ix2 x
    rw [hx]
    exact (kpay3_apply v _ (x 0) (x 1)).trans (dot_tile v w _ (x 0) (x 1) (y 0) (y 1) h0 fun k =>
      View.ld_unit_apply_of w ![2048, 0] ![1024, 4096] _ _ (ix2 (y 1) k) (Fin.forall_fin_two.2 ⟨h1, (Nat.zero_add _).symm⟩))
  · have hx : x = ix2 (n0 := 256) (n1 := 1024) (x 0) (x 1) := eq_ix2 x
    rw [hx]
    exact (kpay2_apply v _ (x 0) (x 1)).trans (dot_tile v w _ (x 0) (x 1) (y 0) (y 1) h0 fun k =>
      View.ld_unit_apply_of w ![1024, 0] ![1024, 4096] _ _ (ix2 (y 1) k) (Fin.forall_fin_two.2 ⟨h1, (Nat.zero_add _).symm⟩))
  · have hx : x = ix2 (n0 := 256) (n1 := 1024) (x 0) (x 1) := eq_ix2 x
    rw [hx]
    exact (kpay1_apply v _ (x 0) (x 1)).trans (dot_tile v w _ (x 0) (x 1) (y 0) (y 1) h0 fun k =>
      View.ld_unit_apply_of w ![0, 0] ![1024, 4096] _ _ (ix2 (y 1) k) (Fin.forall_fin_two.2 ⟨h1.trans (Nat.zero_add _).symm, (Nat.zero_add _).symm⟩))

/-- A point's products, where they lie in the array. -/
theorem prods_emb (c : Dev nD) (t : Fin cfg1.N) (r : Fin 256) (n : Fin 3968) :
    dotAt (k1_pay15 (k1_pay5 (iblk1 V c 0 t)) (kZ (iblk1 V c 0 t)) (kD (iblk1 V c 0 t)) k1_pay12) (iblk1 V c 1 t) r n
      = (fun i : S24576x3968.Idx => rprod (V c main_v6) (V c main_v5) (i 0) (i 1))
          (((View.whole main_v7_0).slice (win1_2.rect t)).emb (ix2 r n)) := by
  rw [emb1_2]
  refine Finset.sum_congr rfl fun k _ => ?_
  rw [kpay15_apply, iblk1_weights, kblk_eq, iblk1_rows]
  rfl

/-- The second launch's products. -/
theorem main_prods (c : Dev nD) :
    (dat1 V c).arrAt 2 cfg1.N = fun i : S24576x3968.Idx => rprod (V c main_v6) (V c main_v5) (i 0) (i 1) := by
  refine (dat1 V c).arrAt_eq_of_covers 2 _ (by decide +kernel) fun t hf y => ?_
  blk_simp
  rw [after1_2]
  unfold outsAt1
  dsimp only
  unfold out1_A_2
  frame_out
  refine (prod_tiles _ _ y).trans ?_
  have hy : y = ix2 (n0 := 256) (n1 := 3968) (y 0) (y 1) := eq_ix2 y
  conv_rhs => rw [hy]
  exact prods_emb V c t (y 0) (y 1)

end Cert.Mx

end
-- ==== Proof.Host.lean ====
/- The kernel program's host operations, read at an index: the expansion of the scales, the rows, and the three results. -/
module

public import proofs.«01_k».proof.Proof.Weights
public import proofs.«01_k».proof.Proof.MainCall
public import Idealize.ShloMosaic.Lib.IdealHost

@[expose] public section

set_option maxRecDepth 16384

noncomputable section

namespace Cert.Mx

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg)

/-- The host's floor division of an array of words by 32. -/
def fdivVec (x : IVec S128x4096 32) : IVec S128x4096 32 :=
  select
    (andi (cmpi .ne (signi x) (broadcastInDim S128x4096 ![] bcast_S_S128x4096 (signi (constantI S_ 32 32#32))))
      (cmpi .ne (Host.remsi x (broadcastInDim S128x4096 ![] bcast_S_S128x4096 (constantI S_ 32 32#32)))
        (broadcastInDim S128x4096 ![] bcast_S_S128x4096 (constantI S_ 32 0#32))))
    (subi (Host.divsi x (broadcastInDim S128x4096 ![] bcast_S_S128x4096 (constantI S_ 32 32#32)))
      (broadcastInDim S128x4096 ![] bcast_S_S128x4096 (constantI S_ 32 1#32)))
    (Host.divsi x (broadcastInDim S128x4096 ![] bcast_S_S128x4096 (constantI S_ 32 32#32)))

/-- The same of one word. -/
def fdivWord (a : BitVec 32) : BitVec 32 :=
  Scalar.select
    (IntOp.andi
      (IntOp.cmpi (w := 32) .ne (if a = 0 then 0 else if a.msb = true then -1 else 1) (if 32#32 = 0 then 0 else if (32#32).msb = true then -1 else 1))
      (IntOp.cmpi .ne (IntOp.remsi .host a 32#32) 0#32))
    (IntOp.subi (IntOp.divsi .host a 32#32) 1#32)
    (IntOp.divsi .host a 32#32)

/-- The array's floor division is the word's, at every index. -/
theorem fdivVec_apply (g : Fin 128) (k : Fin 4096) :
    fdivVec (iotaInDim S128x4096 32 1) (ix2 g k) = fdivWord (BitVec.ofNat 32 k.val) := by
  pointwise [fdivVec]
  rfl

/-- Below 4096 it is the quotient. -/
theorem fdivWord_eq : ∀ k : Fin 4096, fdivWord (BitVec.ofNat 32 k.val) = BitVec.ofNat 32 (k.val / 32) := by
  decide +kernel

/-- The comparison of two small numbers' words. -/
theorem pred_word (a b : ℕ) (ha : a < 4096) (hb : b < 4096) :
    IntOp.cmpi .eq (BitVec.ofNat 32 a) (BitVec.ofNat 32 b) = if a = b then 1#1 else 0#1 := by
  by_cases h : a = b
  · subst h
    simp [IntOp.cmpi]
  · have h' : BitVec.ofNat 32 a ≠ BitVec.ofNat 32 b := fun e => h (by
      have := congrArg BitVec.toNat e
      simpa [BitVec.toNat_ofNat, Nat.mod_eq_of_lt (show a < 4294967296 by omega), Nat.mod_eq_of_lt (show b < 4294967296 by omega)] using this)
    rw [if_neg h]
    simp only [IntOp.cmpi, beq_eq_false_iff_ne.2 h']
    rfl

/-- The expansion's array, as the host computes it. -/
theorem expand_eq (c : Dev nD) : (W3 m ρ c (Proc.devRef .tc main_v4) : S128x4096.Idx → EReal)
    = (uitofp .bf16 (cmpi .eq (fdivVec (iotaInDim S128x4096 32 1)) (iotaInDim S128x4096 32 0)) : FVec Ideal S128x4096 .bf16) := by
  unfold W3 W2 W1 W0
  after_results
  rfl

/-- The expansion is one where the column's block is the row, zero elsewhere. -/
theorem expand_at (c : Dev nD) (g : Fin 128) (k : Fin 4096) :
    (W3 m ρ c (Proc.devRef .tc main_v4) : S128x4096.Idx → EReal) (ix2 g k) = if k.val / 32 = g.val then (1 : EReal) else 0 := by
  rw [expand_eq]
  pointwise []
  rw [fdivVec_apply, fdivWord_eq, pred_word (k.val / 32) g.val (by omega) (by omega)]
  split <;> simp [FloatOps.uitofp]

/-- The row of the flat input that holds row `r` of sequence `s`. -/
def flat (s : Fin 6) (r : Fin 4096) : Fin 24576 := ⟨s.val * 4096 + r.val, by omega⟩

/-- The flat rows are the input's, its two leading axes as one. -/
theorem rows_at (c : Dev nD) (s : Fin 6) (r k : Fin 4096) :
    (V5 m ρ c main_v6 : S24576x4096.Idx → EReal) (ix2 (flat s r) k) = (m ((c : Thread nD τ).loc main_arg0) : S6x4096x4096.Idx → EReal) (ix3 s r k) := by
  have e : (V5 m ρ c main_v6 : S24576x4096.Idx → EReal)
      = shapeCast S24576x4096 (W4 m ρ c (Proc.devRef .tc main_arg0)) shapeCasts_S6x4096x4096_S24576x4096 := by
    unfold V5 W5
    after_results
    rfl
  rw [e, W4_args m ρ c main_arg0 (by decide)]
  refine shapeCast_apply _ _ _ (ix3 s r k) ?_
  rw [Shape.rowMajor_val_two, Shape.rowMajor_val_three]
  rfl

/-- The second launch's weights are the decoded weights. -/
theorem weights_eq (c : Dev nD) :
    (V5 m ρ c main_v5 : S3968x4096.Idx → EReal) = wdeq (m ((c : Thread nD τ).loc main_arg1)) (m ((c : Thread nD τ).loc main_arg2)) := by
  have e : V5 m ρ c main_v5 = (dat0 (V3 m ρ) c).arrAt 3 cfg0.N :=
    (W5_of m ρ c main_v5 (by decide)).trans (W4_arr m ρ c 3)
  have e1 : V3 m ρ c main_arg1 = m ((c : Thread nD τ).loc main_arg1) := W3_args m ρ c main_arg1 (by decide)
  have e2 : V3 m ρ c main_arg2 = m ((c : Thread nD τ).loc main_arg2) := W3_args m ρ c main_arg2 (by decide)
  rw [e, ← e1, ← e2]
  exact weights (V3 m ρ) c (expand_at m ρ c)

/-- The first result's array holds the products of the flat rows. -/
theorem res_prods (c : Dev nD) (s : Fin 6) (r : Fin 4096) (n : Fin 3968) :
    (W7 m ρ c (Proc.devRef .tc main_v8) : S6x4096x3968.Idx → EReal) (ix3 s r n)
      = rprod (V5 m ρ c main_v6) (V5 m ρ c main_v5) (flat s r) n := by
  have e : (W7 m ρ c (Proc.devRef .tc main_v8) : S6x4096x3968.Idx → EReal)
      = shapeCast S6x4096x3968 (W6 m ρ c (Proc.devRef .tc main_v7_0)) shapeCasts_S24576x3968_S6x4096x3968 := by
    unfold W7
    after_results
    rfl
  have e' : W6 m ρ c (Proc.devRef .tc main_v7_0) = _ := (W6_arr m ρ c 2).trans (main_prods (V5 m ρ) c)
  rw [e, e']
  refine (shapeCast_apply _ _ _ (ix2 (flat s r) n) ?_).trans rfl
  rw [Shape.rowMajor_val_two, Shape.rowMajor_val_three]
  rfl

/-- The second result's array holds the codes of the flat rows. -/
theorem res_codes (c : Dev nD) (s : Fin 6) (r k : Fin 4096) :
    (W7 m ρ c (Proc.devRef .tc main_v9) : S6x4096x4096.Idx → EReal) (ix3 s r k) = rcode (V5 m ρ c main_v6) (flat s r) k := by
  have e : (W7 m ρ c (Proc.devRef .tc main_v9) : S6x4096x4096.Idx → EReal)
      = shapeCast S6x4096x4096 (W6 m ρ c (Proc.devRef .tc main_v7_1)) shapeCasts_S24576x4096_S6x4096x4096 := by
    unfold W7
    after_results
    rfl
  have e' : W6 m ρ c (Proc.devRef .tc main_v7_1) = _ := (W6_arr m ρ c 3).trans (main_codes (V5 m ρ) c)
  rw [e, e']
  refine (shapeCast_apply _ _ _ (ix2 (flat s r) k) ?_).trans rfl
  rw [Shape.rowMajor_val_two, Shape.rowMajor_val_three]
  rfl

/-- The third result's array holds the scale codes of the flat rows. -/
theorem res_scales (c : Dev nD) (s : Fin 6) (r : Fin 4096) (g : Fin 128) :
    (W7 m ρ c (Proc.devRef .tc main_v10) : S6x4096x128.Idx → BitVec 8) (ix3 s r g)
      = scaleCode (tmax (rblk (V5 m ρ c main_v6) (flat s r) g)) := by
  have e : (W7 m ρ c (Proc.devRef .tc main_v10) : S6x4096x128.Idx → BitVec 8)
      = shapeCast S6x4096x128 (W6 m ρ c (Proc.devRef .tc main_v7_2)) shapeCasts_S24576x128_S6x4096x128 := by
    unfold W7
    after_results
    rfl
  have e' : W6 m ρ c (Proc.devRef .tc main_v7_2) = _ := (W6_arr m ρ c 4).trans (main_scales (V5 m ρ) c)
  rw [e, e']
  refine (shapeCast_apply _ _ _ (ix2 (flat s r) g) ?_).trans rfl
  rw [Shape.rowMajor_val_two, Shape.rowMajor_val_three]
  rfl

end Cert.Mx

end
-- ==== Proof.Equation.lean ====
/- The equation between the two programs' entries: a row of dequantised codes against a row of decoded weights is, block by
   block, the product of the codes times the two scales. -/
module

public import proofs.«01_k».proof.Proof.Spec
public import proofs.«01_k».proof.Proof.Weights
public import proofs.«01_k».proof.Proof.MainCall

@[expose] public section

noncomputable section

namespace Cert.Mx

open Idealize.ShloMosaic Cert.KernelIdeal
open scoped BigOperators

/-- A sum over 4096 positions, block of 32 by block of 32. -/
theorem sum_blocks (f : Fin 4096 → EReal) :
    ∑ k : Fin 4096, f k = ∑ g : Fin 128, ∑ j : Fin 32, f ⟨g.val * 32 + j.val, by omega⟩ := by
  rw [← Fintype.sum_prod_type (f := fun p : Fin 128 × Fin 32 => f ⟨p.1.val * 32 + p.2.val, by omega⟩)]
  refine (Fintype.sum_equiv (finProdFinEquiv (m := 128) (n := 32)) _ _ fun p => congrArg f (Fin.ext ?_)).symm
  show p.1.val * 32 + p.2.val = p.2.val + 32 * p.1.val
  omega

/-- A decoded weight, from the block that its position lies in. -/
theorem wdeq_block (w : S3968x4096.Idx → EReal) (ws : S3968x128.Idx → BitVec 8) (n : Fin 3968) (k : Fin 4096) (g : Fin 128)
    (h : k.val / 32 = g.val) : wdeq w ws (ix2 n k) = w (ix2 n k) * pw (ws (ix2 n g)).toNat := by
  have h' : k.val / 32 < 128 := by omega
  have e : (⟨k.val / 32, h'⟩ : Fin 128) = g := Fin.ext h
  have h0 : wdeq w ws (ix2 n k) = w (ix2 n k) * pw (ws (ix2 n ⟨k.val / 32, h'⟩)).toNat := rfl
  rw [h0, e]

section
variable {X : S24576x4096.Idx → EReal} {x : S6x4096x4096.Idx → EReal} {R : Fin 24576} {s : Fin 6} {r : Fin 4096}

/-- A block of a flat row is the block of the input's row. -/
theorem rblk_blk (hX : ∀ k : Fin 4096, X (ix2 R k) = x (ix3 s r k)) (g : Fin 128) : rblk X R g = blk x s r g :=
  funext fun _ => hX _

/-- The codes of a flat row are the codes of the input's row. -/
theorem rcode_codeAt (hX : ∀ k : Fin 4096, X (ix2 R k) = x (ix3 s r k)) (k : Fin 4096) : rcode X R k = codeAt x s r k := by
  unfold rcode codeAt bmax
  rw [rblk_blk hX, hX]

/-- One block of a product: its weights' scale and its row's scale out of the sum. -/
theorem block_sum (c w : Fin 32 → EReal) (p q : EReal) (hp0 : 0 ≤ p) (hp : p ≠ ⊤) (hq0 : 0 ≤ q) (hq : q ≠ ⊤) :
    ∑ j : Fin 32, w j * q * (c j * p) = (∑ j : Fin 32, c j * w j) * p * q := by
  rw [sum_mul _ _ _ hp0 hp, sum_mul _ _ _ hq0 hq]
  refine Finset.sum_congr rfl fun j _ => ?_
  rw [mul_mul_mul_comm, mul_comm (w j) (c j), mul_comm q p, mul_assoc (c j * w j) p q]

/-- One term of the kernel's product, from the block that its position lies in. -/
theorem rprod_term (hX : ∀ k : Fin 4096, X (ix2 R k) = x (ix3 s r k)) (w : S3968x4096.Idx → EReal) (ws : S3968x128.Idx → BitVec 8)
    (n : Fin 3968) (k : Fin 4096) (g : Fin 128) (h : k.val / 32 = g.val) :
    wdeq w ws (ix2 n k) * (rcode X R k * pw (codeOf (tmax (rblk X R ⟨k.val / 32, by omega⟩))))
      = w (ix2 n k) * pw (ws (ix2 n g)).toNat * (codeAt x s r k * pw (codeOf (bmax x s r g))) := by
  have e : ∀ h' : k.val / 32 < 128, (⟨k.val / 32, h'⟩ : Fin 128) = g := fun _ => Fin.ext h
  rw [wdeq_block w ws n k g h, rcode_codeAt hX, rblk_blk hX, e]
  rfl

/-- A scale code that is not 255 decodes to a number. -/
theorem scale_ne_top (b : BitVec 8) (h : b ≠ 255#8) : pw b.toNat ≠ ⊤ := pw_ne_top (by
  have hlt := b.isLt
  have : b.toNat ≠ 255 := fun e => h (BitVec.eq_of_toNat_eq e)
  omega)

/-- The kernel's product is the reference's, when no weight's scale code is the one that stands for no number. -/
theorem rprod_prodAt (hX : ∀ k : Fin 4096, X (ix2 R k) = x (ix3 s r k)) (w : S3968x4096.Idx → EReal) (ws : S3968x128.Idx → BitVec 8)
    (hws : ∀ (n : Fin 3968) (g : Fin 128), ws (ix2 n g) ≠ 255#8) (n : Fin 3968) :
    rprod X (wdeq w ws) R n = prodAt x w ws s r n := by
  unfold rprod prodAt
  refine (sum_blocks _).trans (Finset.sum_congr rfl fun g _ => ?_)
  refine (Finset.sum_congr rfl fun j _ => rprod_term hX w ws n ⟨g.val * 32 + j.val, by omega⟩ g ?_).trans
    (block_sum (fun j => codeAt x s r ⟨g.val * 32 + j.val, by omega⟩) (fun j => w (ix2 n ⟨g.val * 32 + j.val, by omega⟩)) _ _
      (pw_nonneg _) (pw_ne_top (codeOf_le _)) (pw_nonneg _) (scale_ne_top _ (hws n g)))
  show (g.val * 32 + j.val) / 32 = g.val
  omega
end

end Cert.Mx

end
-- ==== Proof.RefRead.lean ====
/- What the reference's three results hold, entry by entry. -/
module

public import proofs.«01_k».proof.Proof.Spec
public import proofs.«01_k».proof.Proof.Gen.ReferenceIdeal.Value
public import Idealize.ShloMosaic.Lib.Pipeline.Value

@[expose] public section

set_option maxRecDepth 16384

noncomputable section

namespace Cert.Mx

open Idealize.ShloMosaic Idealize.ShloMosaic.TcCoe
open Cert.ReferenceIdeal Cert.ReferenceIdeal.Gen

/-- A maximum along the last axis of a rank-4 array, at an index, is the fold of `max` along that axis. -/
theorem max4 {n0 n1 n2 n3 : ℕ} (v : FVec Ideal ⟨4, ![n0, n1, n2, n3]⟩ .f32) (acc : BitVec 32)
    (h : (⟨4, ![n0, n1, n2, n3]⟩ : Shape).Reduces [3] ⟨3, ![n0, n1, n2]⟩)
    (hφ : FKind.Formats .f32) (hacc : acc = FKind.maximumf.neutral .f32 hφ) (a : Fin n0) (b : Fin n1) (c : Fin n2) :
    multiReduction .maximumf [3] ⟨3, ![n0, n1, n2]⟩ v acc h hφ hacc (ix3 a b c)
      = (Finset.univ : Finset (Fin n3)).fold max (Ideal.ofBits .f32 acc) fun j => v (ix4 a b c j) := by
  rw [multiReduction_maximumf_eq_fold]
  exact h.fold_fiber_r4_a3 (ix3 a b c) _ _ v

/-- An integer sum along the last axis of a rank-4 array, at an index, is the fold of addition along that axis. -/
theorem count4 {n0 n1 n2 n3 : ℕ} (v : IVec ⟨4, ![n0, n1, n2, n3]⟩ 32) (acc : BitVec 32)
    (h : (⟨4, ![n0, n1, n2, n3]⟩ : Shape).Reduces [3] ⟨3, ![n0, n1, n2]⟩)
    (hacc : acc = IKind.add.neutral) (a : Fin n0) (b : Fin n1) (c : Fin n2) :
    multiReductionI .add [3] ⟨3, ![n0, n1, n2]⟩ v acc h hacc (ix3 a b c)
      = (Finset.univ : Finset (Fin n3)).fold IntOp.addi acc fun j => v (ix4 a b c j) := by
  rw [multiReductionI_eq_fold]
  exact h.fold_fiber_r4_a3 (ix3 a b c) _ _ v

/-! ## The block exponents -/

/-- The maximum along the blocks of the reference's block array, at an index. -/
theorem refmax_apply (v : FVec Ideal S6x4096x128x32 .f32) (s : Fin 6) (r : Fin 4096) (g : Fin 128) :
    multiReduction .maximumf [3] S6x4096x128 v 0xFF800000#32 reduces_S6x4096x128x32_S6x4096x128 (.inl rfl) rfl (ix3 s r g)
      = (Finset.univ : Finset (Fin 32)).fold max (Ideal.ofBits .f32 0xFF800000#32) fun j => v (ix4 s r g j) :=
  max4 v _ _ _ _ s r g

/-- The largest magnitude of every block. -/
def refM (v : FVec Ideal S6x4096x128x32 .f32) : FVec Ideal S6x4096x128 .f32 :=
  multiReduction .maximumf [3] S6x4096x128 v 0xFF800000#32 reduces_S6x4096x128x32_S6x4096x128 (.inl rfl) rfl

/-- The largest magnitudes, scaled. -/
def refT (M : FVec Ideal S6x4096x128 .f32) : FVec Ideal S6x4096x128 .f32 :=
  mulf M (broadcast S6x4096x128 (Scalar.ofBits .f32 0x3B124925#32))

/-- The reference's flags: entry `k` of a block says that its scaled maximum is at least the power of two of exponent k − 126. -/
def refFlags (T : FVec Ideal S6x4096x128 .f32) : IVec S6x4096x128x254 32 :=
  have v7 : IVec S6x4096x128x254 32 := iota .tc S6x4096x128x254 32 [3] iota_S6x4096x128x254_d3_w32
  have v8 : IVec S6x4096x128x254 32 := broadcast S6x4096x128x254 126#32
  have v9 : IVec S6x4096x128x254 32 := subi v7 v8
  have v10 : FVec Ideal S6x4096x128x1 .f32 := shapeCast S6x4096x128x1 T shapeCasts_S6x4096x128_S6x4096x128x1
  have v11 : IVec S6x4096x128x254 32 := broadcast S6x4096x128x254 4294967170#32
  have v12 : IVec S6x4096x128x254 1 := cmpi .slt v9 v11
  have v13 : FVec Ideal S6x4096x128x254 .f32 := sitofp .f32 v9
  have v14 : FVec Ideal S6x4096x128x254 .f32 := exp2 v13
  have cst_3 : Ideal .f32 := Scalar.ofBits .f32 0x00000000#32
  have v15 : FVec Ideal S6x4096x128x254 .f32 := broadcast S6x4096x128x254 cst_3
  have v16 : FVec Ideal S6x4096x128x254 .f32 := select v12 v15 v14
  have v17 : FVec Ideal S6x4096x128x254 .f32 := broadcastTo S6x4096x128x254 v10 broadcasts_S6x4096x128x1_S6x4096x128x254
  have v18 : IVec S6x4096x128x254 1 := cmpf .oge v17 v16
  have v19 : IVec S6x4096x128x254 32 := extui 32 v18 natLt_1_32
  v19

/-- The flags of each block, counted. -/
def refCount (v19 : IVec S6x4096x128x254 32) : IVec S6x4096x128 32 :=
  multiReductionI .add [3] S6x4096x128 v19 0#32 reduces_S6x4096x128x254_S6x4096x128 rfl

/-- The reference's block exponents from the counts. -/
def refE (v20 : IVec S6x4096x128 32) : IVec S6x4096x128 32 :=
  have v21 : IVec S6x4096x128 32 := broadcast S6x4096x128 0#32
  have v22 : IVec S6x4096x128 1 := cmpi .eq v20 v21
  have v23 : IVec S6x4096x128 32 := broadcast S6x4096x128 126#32
  have v24 : IVec S6x4096x128 32 := subi v20 v23
  have v25 : IVec S6x4096x128 32 := broadcast S6x4096x128 0#32
  have v26 : IVec S6x4096x128 32 := select v22 v25 v24
  have v27 : IVec S6x4096x128 32 := broadcast S6x4096x128 4294967169#32
  have v28 : IVec S6x4096x128 32 := maxsi v27 v26
  have v29 : IVec S6x4096x128 32 := broadcast S6x4096x128 127#32
  have v30 : IVec S6x4096x128 32 := minsi v29 v28
  v30

/-- The reference's block exponents, step by step. -/
theorem pay2_eq (x : Vec Ideal S6x4096x4096 .bf16) : k0_pay2 x = refE (refCount (refFlags (refT (refM (absf (k0_pay1 x)))))) := rfl

/-- The input, split into blocks of 32 along its last axis. -/
theorem pay1_apply (x : Vec Ideal S6x4096x4096 .bf16) (s : Fin 6) (r : Fin 4096) (g : Fin 128) (j : Fin 32) :
    k0_pay1 x (ix4 s r g j) = blk x s r g j := by
  pointwise [k0_pay1]
  rfl

/-- A block's maximum is the fold of `max` over its 32 entries. -/
theorem refM_apply (v : FVec Ideal S6x4096x128x32 .f32) (s : Fin 6) (r : Fin 4096) (g : Fin 128) :
    refM v (ix3 s r g) = (Finset.univ : Finset (Fin 32)).fold max (Ideal.ofBits .f32 0xFF800000#32) fun j => v (ix4 s r g j) :=
  refmax_apply v s r g

/-- The scaling multiplies each maximum by the constant 1/448. -/
theorem refT_mul (M : FVec Ideal S6x4096x128 .f32) (s : Fin 6) (r : Fin 4096) (g : Fin 128) :
    refT M (ix3 s r g) = M (ix3 s r g) * Ideal.ofBits .f32 0x3B124925#32 := rfl

/-- An entry of a block, in absolute value. -/
theorem absf_pay1 (x : Vec Ideal S6x4096x4096 .bf16) (s : Fin 6) (r : Fin 4096) (g : Fin 128) (j : Fin 32) :
    absf (k0_pay1 x) (ix4 s r g j) = max (blk x s r g j) (-(blk x s r g j)) := by
  rw [← pay1_apply]; rfl

/-- The reference's scaled block maximum is the specification's. -/
theorem refT_apply (x : Vec Ideal S6x4096x4096 .bf16) (s : Fin 6) (r : Fin 4096) (g : Fin 128) :
    refT (refM (absf (k0_pay1 x))) (ix3 s r g) = bmax x s r g := by
  rw [refT_mul, refM_apply]
  unfold bmax tmax
  exact congrArg (fun a : EReal => a * Ideal.ofBits .f32 0x3B124925#32) (Finset.fold_congr fun j _ => absf_pay1 x s r g j)

/-- The flag of the k-th power of two: one when it is at most the scaled maximum. -/
theorem refFlags_apply (T : FVec Ideal S6x4096x128 .f32) (s : Fin 6) (r : Fin 4096) (g : Fin 128) (k : Fin 254) :
    refFlags T (ix4 s r g k) = (FloatOps.cmpf (F := Ideal) (φ := .f32) .oge (T (ix3 s r g))
      (refPow (IntOp.subi (BitVec.ofNat 32 k.val) 126#32))).setWidth 32 := by
  pointwise [refFlags, refPow]

/-- The count adds a block's 254 flags. -/
theorem refCount_apply (v : IVec S6x4096x128x254 32) (s : Fin 6) (r : Fin 4096) (g : Fin 128) :
    refCount v (ix3 s r g) = (Finset.univ : Finset (Fin 254)).fold IntOp.addi 0#32 fun k => v (ix4 s r g k) :=
  count4 v 0#32 reduces_S6x4096x128x254_S6x4096x128 rfl s r g

/-- The block exponent is a function of the count. -/
theorem refE_apply (v : IVec S6x4096x128 32) (s : Fin 6) (r : Fin 4096) (g : Fin 128) :
    refE v (ix3 s r g) = expo (v (ix3 s r g)) := rfl

/-- The reference's block exponent is that of the block's scaled maximum. -/
theorem ref_expo (x : Vec Ideal S6x4096x4096 .bf16) (s : Fin 6) (r : Fin 4096) (g : Fin 128) :
    k0_pay2 x (ix3 s r g) = expo (count (bmax x s r g)) := by
  rw [pay2_eq, refE_apply]
  refine congrArg expo ?_
  rw [refCount_apply]
  unfold count
  refine Finset.fold_congr fun k _ => ?_
  rw [refFlags_apply, refT_apply]

/-- The values times the block's multiplier. -/
theorem ref_mul (x : Vec Ideal S6x4096x4096 .bf16) (s : Fin 6) (r : Fin 4096) (g : Fin 128) (j : Fin 32) :
    k0_pay3 x (ix4 s r g j) = blk x s r g j * pw (254 - codeOf (bmax x s r g)) := by
  rw [← inv_ref, ← ref_expo]
  generalize hE : k0_pay2 x (ix3 s r g) = e
  unfold blk
  pointwise [k0_pay3, k0_pay1, refPow]
  rw [hE]

/-- The reference's codes. -/
theorem ref_code (x : Vec Ideal S6x4096x4096 .bf16) (s : Fin 6) (r : Fin 4096) (k : Fin 4096) :
    k0_pay4 (k0_pay3 x) (Scalar.ofBits .f32 0xC3E00000#32) (ix3 s r k) = codeAt x s r k := by
  have h := ref_mul x s r ⟨k.val / 32, by omega⟩ ⟨k.val % 32, by omega⟩
  have hk : (⟨k.val / 32 * 32 + k.val % 32, by omega⟩ : Fin 4096) = k := Fin.ext (by show k.val / 32 * 32 + k.val % 32 = k.val; omega)
  unfold codeAt quant
  unfold blk at h
  dsimp only at h
  rw [hk] at h
  rw [← h]
  pointwise [k0_pay4]

/-- The reference's scale codes. -/
theorem ref_scale (x : Vec Ideal S6x4096x4096 .bf16) (s : Fin 6) (r : Fin 4096) (g : Fin 128) :
    k0_pay5 (k0_pay2 x) (ix3 s r g) = scaleCode (bmax x s r g) := by
  unfold scaleCode
  rw [← expo_count, ← ref_expo]
  rfl

/-- The reference's product, before its scales are decoded. -/
theorem ref_prod (v30 : IVec S6x4096x128 32) (v41 : FVec Ideal S6x4096x128x32 .f32) (cst : Ideal .f32)
    (w : Vec Ideal S3968x4096 .fp8e4m3) (ws : Vec Ideal S3968x128 .i8) (s : Fin 6) (r : Fin 4096) (n : Fin 3968) :
    k0_pay6 v30 v41 cst w ws (ix3 s r n) = ∑ g : Fin 128, ((∑ j : Fin 32, k0_pay4 v41 cst (ix3 s r ⟨g.val * 32 + j.val, by omega⟩)
        * w (ix2 n ⟨g.val * 32 + j.val, by omega⟩))
      * refPow (IntOp.subi ((k0_pay5 v30 (ix3 s r g)).setWidth 32) 127#32))
      * refPow (IntOp.subi ((ws (ix2 n g)).setWidth 32) 127#32) := by
  pointwise [k0_pay6, refPow]

/-- The scale of a row's block, decoded from the reference's scale code. -/
theorem ref_sx (x : Vec Ideal S6x4096x4096 .bf16) (s : Fin 6) (r : Fin 4096) (g : Fin 128) :
    refPow (IntOp.subi ((k0_pay5 (k0_pay2 x) (ix3 s r g)).setWidth 32) 127#32) = pw (codeOf (bmax x s r g)) := by
  rw [ref_scale]
  unfold scaleCode
  rw [← expo_count]
  exact scale_ref _

/-- The reference's product. -/
theorem ref_y (x : Vec Ideal S6x4096x4096 .bf16) (w : Vec Ideal S3968x4096 .fp8e4m3) (ws : Vec Ideal S3968x128 .i8)
    (hws : ∀ (n : Fin 3968) (g : Fin 128), ws (ix2 n g) ≠ 255#8) (s : Fin 6) (r : Fin 4096) (n : Fin 3968) :
    k0_pay6 (k0_pay2 x) (k0_pay3 x) (Scalar.ofBits .f32 0xC3E00000#32) w ws (ix3 s r n) = prodAt x w ws s r n := by
  refine (ref_prod (k0_pay2 x) (k0_pay3 x) (Scalar.ofBits .f32 0xC3E00000#32) w ws s r n).trans ?_
  unfold prodAt
  refine Finset.sum_congr rfl fun g _ => ?_
  refine congrArg₂ (fun a b : EReal => a * b) (congrArg₂ (fun a b : EReal => a * b) ?_ (ref_sx x s r g)) (weight_ref _ (hws n g))
  exact Finset.sum_congr rfl fun j _ => congrArg (fun a : EReal => a * w (ix2 n ⟨g.val * 32 + j.val, by omega⟩)) (ref_code x s r ⟨g.val * 32 + j.val, by omega⟩)

end Cert.Mx

end
-- ==== Proof.Results.lean ====
/- The three results of the kernel program, each as the reference's function of the arguments. -/
module

public import proofs.«01_k».proof.Proof.Host
public import proofs.«01_k».proof.Proof.Equation
public import proofs.«01_k».proof.Proof.RefRead
public import proofs.«01_k».proof.Proof.Gen.ReferenceIdeal.Value

@[expose] public section

noncomputable section

namespace Cert.Mx

open Idealize.ShloMosaic Idealize.ShloMosaic.TcCoe
open Cert.ReferenceIdeal.Gen (k0_pay2 k0_pay3 k0_pay4 k0_pay5 k0_pay6 k0_pay7 k0_pay8)

section
open Cert.ReferenceIdeal

variable (x : Vec Ideal S6x4096x4096 .bf16) (w : Vec Ideal S3968x4096 .fp8e4m3) (ws : Vec Ideal S3968x128 .i8)

/-- The reference loads the whole input. -/
theorem pay7_whole : k0_pay7 x w ws = k0_pay2 x :=
  congrArg k0_pay2 (View.ld_unit_zero (S := S6x4096x4096) Cert.ReferenceIdeal.Value.hz3 _ x)

/-- The same, for the rows in blocks. -/
theorem pay8_whole : k0_pay8 x w ws = k0_pay3 x :=
  congrArg k0_pay3 (View.ld_unit_zero (S := S6x4096x4096) Cert.ReferenceIdeal.Value.hz3 _ x)

/-- The reference's products. -/
theorem G3_at (hws : ∀ (n : Fin 3968) (g : Fin 128), ws (ix2 n g) ≠ 255#8) (s : Fin 6) (r : Fin 4096) (n : Fin 3968) :
    Cert.ReferenceIdeal.Value.G3 x w ws (ix3 s r n) = prodAt x w ws s r n := by
  unfold Cert.ReferenceIdeal.Value.G3
  rw [pay7_whole, pay8_whole]
  exact ref_y x w ws hws s r n

/-- The reference's codes. -/
theorem G4_at (s : Fin 6) (r k : Fin 4096) : Cert.ReferenceIdeal.Value.G4 x w ws (ix3 s r k) = codeAt x s r k := by
  unfold Cert.ReferenceIdeal.Value.G4
  rw [pay8_whole]
  exact ref_code x s r k

/-- The reference's scale codes. -/
theorem G5_at (s : Fin 6) (r : Fin 4096) (g : Fin 128) :
    Cert.ReferenceIdeal.Value.G5 x w ws (ix3 s r g) = scaleCode (bmax x s r g) := by
  unfold Cert.ReferenceIdeal.Value.G5
  rw [pay7_whole]
  exact ref_scale x s r g
end

open Cert.KernelIdeal Cert.KernelIdeal.Gen

variable (m : (ℓ : Loc nD τ sig) → Buf (Elt Ideal) ℓ) (ρ : Dev nD → PrngReg)

/-- The kernel program's products are the reference's. -/
theorem result0 (c : Dev nD)
    (hws : ∀ (n : Fin 3968) (g : Fin 128), (m ((c : Thread nD τ).loc main_arg2) : S3968x128.Idx → BitVec 8) (ix2 n g) ≠ 255#8) :
    (W7 m ρ c (Proc.devRef .tc main_v8) : S6x4096x3968.Idx → EReal)
      = Cert.ReferenceIdeal.Value.G3 (F := Ideal) (m ((c : Thread nD τ).loc main_arg0)) (m ((c : Thread nD τ).loc main_arg1))
          (m ((c : Thread nD τ).loc main_arg2)) := by
  have key : ∀ (s : Fin 6) (r : Fin 4096) (n : Fin 3968), (W7 m ρ c (Proc.devRef .tc main_v8) : S6x4096x3968.Idx → EReal) (ix3 s r n)
      = Cert.ReferenceIdeal.Value.G3 (F := Ideal) (m ((c : Thread nD τ).loc main_arg0)) (m ((c : Thread nD τ).loc main_arg1))
          (m ((c : Thread nD τ).loc main_arg2)) (ix3 s r n) := fun s r n => by
    refine (res_prods m ρ c s r n).trans ?_
    rw [weights_eq]
    exact (rprod_prodAt (rows_at m ρ c s r) _ _ hws n).trans (G3_at _ _ _ hws s r n).symm
  funext i
  have hi : i = ix3 (n0 := 6) (n1 := 4096) (n2 := 3968) (i 0) (i 1) (i 2) := eq_ix3 i
  rw [hi]
  exact key (i 0) (i 1) (i 2)

/-- The kernel program's codes are the reference's. -/
theorem result1 (c : Dev nD) :
    (W7 m ρ c (Proc.devRef .tc main_v9) : S6x4096x4096.Idx → EReal)
      = Cert.ReferenceIdeal.Value.G4 (F := Ideal) (m ((c : Thread nD τ).loc main_arg0)) (m ((c : Thread nD τ).loc main_arg1))
          (m ((c : Thread nD τ).loc main_arg2)) := by
  have key : ∀ s r k, (W7 m ρ c (Proc.devRef .tc main_v9) : S6x4096x4096.Idx → EReal) (ix3 s r k)
      = Cert.ReferenceIdeal.Value.G4 (F := Ideal) (m ((c : Thread nD τ).loc main_arg0)) (m ((c : Thread nD τ).loc main_arg1))
          (m ((c : Thread nD τ).loc main_arg2)) (ix3 s r k) := fun s r k =>
    (res_codes m ρ c s r k).trans ((rcode_codeAt (rows_at m ρ c s r) k).trans (G4_at _ _ _ s r k).symm)
  funext i
  have hi : i = ix3 (n0 := 6) (n1 := 4096) (n2 := 4096) (i 0) (i 1) (i 2) := eq_ix3 i
  rw [hi]
  exact key (i 0) (i 1) (i 2)

/-- The kernel program's scale codes are the reference's. -/
theorem result2 (c : Dev nD) :
    (W7 m ρ c (Proc.devRef .tc main_v10) : S6x4096x128.Idx → BitVec 8)
      = Cert.ReferenceIdeal.Value.G5 (F := Ideal) (m ((c : Thread nD τ).loc main_arg0)) (m ((c : Thread nD τ).loc main_arg1))
          (m ((c : Thread nD τ).loc main_arg2)) := by
  have key : ∀ s r g, (W7 m ρ c (Proc.devRef .tc main_v10) : S6x4096x128.Idx → BitVec 8) (ix3 s r g)
      = Cert.ReferenceIdeal.Value.G5 (F := Ideal) (m ((c : Thread nD τ).loc main_arg0)) (m ((c : Thread nD τ).loc main_arg1))
          (m ((c : Thread nD τ).loc main_arg2)) (ix3 s r g) := fun s r g =>
    (res_scales m ρ c s r g).trans
      ((congrArg (fun f => scaleCode (tmax f)) (rblk_blk (rows_at m ρ c s r) g)).trans (G5_at _ _ _ s r g).symm)
  funext i
  have hi : i = ix3 (n0 := 6) (n1 := 4096) (n2 := 128) (i 0) (i 1) (i 2) := eq_ix3 i
  rw [hi]
  exact key (i 0) (i 1) (i 2)

end Cert.Mx

end
-- ==== Proof.lean ====
/- The certificate: the two programs' runs, and the equality of their three results. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.KernelRun
public import proofs.«01_k».proof.Proof.Results

@[expose] public section

noncomputable section

namespace Cert.Proof

open Idealize.ShloMosaic Idealize.SL.Sem

/-- The one side condition that the precondition states: a scalar broadcasts to the scale codes' shape. -/
theorem preFacts : Cert.Pre_scales_are_numbers.Facts := ⟨by decide⟩

/-- The precondition, entry by entry: no weight's scale code is 255. -/
theorem scales_of_pre (x : FVec Ideal Cert.Pre_scales_are_numbers.S6x4096x4096 .bf16) (w : FVec Ideal Cert.Pre_scales_are_numbers.S3968x4096 .fp8e4m3)
    (ws : IVec Cert.Pre_scales_are_numbers.S3968x128 8)
    (h : haveI := preFacts; Cert.Pre_scales_are_numbers.fn (F := Ideal) x w ws = fun _ => 1#1) (n : Fin 3968) (g : Fin 128) :
    ws (ix2 n g) ≠ 255#8 := by
  intro e
  have h1 : IntOp.cmpi .ne (ws (ix2 n g)) 255#8 = 1#1 := congrFun h (ix2 n g)
  rw [e] at h1
  exact absurd h1 (by decide)

/-- The kernel and the reference, run from memories that agree on the arguments, end with the same three results. -/
theorem algebraic : haveI := preFacts; Cert.algebraic_KernelIdeal_ReferenceIdeal_pre_scales_are_numbers := by
  intro m g m' g' hpre hargs
  have hv0 := fun c => Cert.Mx.result0 m g c (scales_of_pre _ _ _ (hpre c))
  have hv1 := fun c => Cert.Mx.result1 m g c
  have hv2 := fun c => Cert.Mx.result2 m g c
  refine ⟨fun c => Cert.KernelIdeal.Gen.W7 m g c (Proc.devRef .tc Cert.KernelIdeal.main_v8), fun c => Cert.KernelIdeal.Gen.W7 m g c (Proc.devRef .tc Cert.KernelIdeal.main_v9),
    fun c => Cert.KernelIdeal.Gen.W7 m g c (Proc.devRef .tc Cert.KernelIdeal.main_v10), Cert.Mx.kernel_run m g, ?_⟩
  refine (θ_run _ _ _).mono (fun r h c => ?_) (Cert.ReferenceIdeal.Value.run m' g')
  obtain ⟨h0, h1, h2, ha⟩ := h c
  obtain ⟨e0, e1, e2⟩ := hargs c
  rw [e0, e1, e2] at h0 h1 h2
  exact ⟨h0.trans (hv0 c).symm, h1.trans (hv1 c).symm, h2.trans (hv2 c).symm, ha⟩

/-- Everything the certificate claims. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, algebraic⟩

end Cert.Proof

end
